-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v81) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x64 : Shape := ⟨3, ![2, 1024, 64]⟩
abbrev S2x100000x64 : Shape := ⟨3, ![2, 100000, 64]⟩
abbrev S_ : Shape := ⟨0, ![]⟩

class Facts : Prop where
  bcast_S_S2x1024x64 : S_.BroadcastsInDim S2x1024x64 (![] : Fin 0 → Fin S2x1024x64.rank)
  reducesTo_S2x1024x64_S_d0_1_2 : S2x1024x64.ReducesTo [0, 1, 2] S_
  h_S_ : 0 < S_.numel
  bcast_S_S2x100000x64 : S_.BroadcastsInDim S2x100000x64 (![] : Fin 0 → Fin S2x100000x64.rank)
  reducesTo_S2x100000x64_S_d0_1_2 : S2x100000x64.ReducesTo [0, 1, 2] S_

variable [Facts]

def fn {F : FTy → Type} [FloatOps F] (main_arg0 : FVec F S2x1024x64 .f32) (main_arg1 : FVec F S2x100000x64 .f32) : IVec S_ 1 :=
  let main_v0 : FVec F S2x1024x64 .f32 := Host.absf main_arg0
  let main_cst : FVec F S_ .f32 := constant S_ .f32 0x7F800000#32
  let main_v1 : FVec F S2x1024x64 .f32 := broadcastInDim S2x1024x64 ![] bcast_S_S2x1024x64 main_cst
  let main_v2 : IVec S2x1024x64 1 := cmpf .olt main_v0 main_v1
  let main_c : IVec S_ 1 := constantI S_ 1 1#1
  let main_v3 : IVec S_ 1 := (fun x v => Host.reduce IntOp.andi x v reducesTo_S2x1024x64_S_d0_1_2 h_S_) main_v2 main_c
  let main_v4 : FVec F S2x100000x64 .f32 := Host.absf main_arg1
  let main_cst_0 : FVec F S_ .f32 := constant S_ .f32 0x7F800000#32
  let main_v5 : FVec F S2x100000x64 .f32 := broadcastInDim S2x100000x64 ![] bcast_S_S2x100000x64 main_cst_0
  let main_v6 : IVec S2x100000x64 1 := cmpf .olt main_v4 main_v5
  let main_c_1 : IVec S_ 1 := constantI S_ 1 1#1
  let main_v7 : IVec S_ 1 := (fun x v => Host.reduce IntOp.andi x v reducesTo_S2x100000x64_S_d0_1_2 h_S_) main_v6 main_c_1
  let main_v8 : IVec S_ 1 := andi main_v3 main_v7
  main_v8
-- ==== Kernel.lean ====
abbrev S2x1024x64 : Shape := ⟨3, ![2, 1024, 64]⟩
abbrev S2x100000x64 : Shape := ⟨3, ![2, 100000, 64]⟩
abbrev S2x64x1024 : Shape := ⟨3, ![2, 64, 1024]⟩
abbrev S2x1024x8x8 : Shape := ⟨4, ![2, 1024, 8, 8]⟩
abbrev S2x1024x1x8 : Shape := ⟨4, ![2, 1024, 1, 8]⟩
abbrev S2x1024x8 : Shape := ⟨3, ![2, 1024, 8]⟩
abbrev S2x1024x4 : Shape := ⟨3, ![2, 1024, 4]⟩
abbrev S2x1024x2 : Shape := ⟨3, ![2, 1024, 2]⟩
abbrev S2x1024x1 : Shape := ⟨3, ![2, 1024, 1]⟩
abbrev S2x1024 : Shape := ⟨2, ![2, 1024]⟩
abbrev S2x1x1024 : Shape := ⟨3, ![2, 1, 1024]⟩
abbrev S2x100000x8x8 : Shape := ⟨4, ![2, 100000, 8, 8]⟩
abbrev S2x100000x1x8 : Shape := ⟨4, ![2, 100000, 1, 8]⟩
abbrev S2x100000x8 : Shape := ⟨3, ![2, 100000, 8]⟩
abbrev S2x100000x4 : Shape := ⟨3, ![2, 100000, 4]⟩
abbrev S2x100000x2 : Shape := ⟨3, ![2, 100000, 2]⟩
abbrev S2x100000x1 : Shape := ⟨3, ![2, 100000, 1]⟩
abbrev S2x100000 : Shape := ⟨2, ![2, 100000]⟩
abbrev S_ : Shape := ⟨0, ![]⟩
abbrev S2x102400 : Shape := ⟨2, ![2, 102400]⟩
abbrev S50x4096x1 : Shape := ⟨3, ![50, 4096, 1]⟩
abbrev S2x102400x64 : Shape := ⟨3, ![2, 102400, 64]⟩
abbrev S2x16x1024 : Shape := ⟨3, ![2, 16, 1024]⟩
abbrev S1x4096x64 : Shape := ⟨3, ![1, 4096, 64]⟩
abbrev S1x64x1024 : Shape := ⟨3, ![1, 64, 1024]⟩
abbrev S1x1x1024 : Shape := ⟨3, ![1, 1, 1024]⟩
abbrev S1x4096x1 : Shape := ⟨3, ![1, 4096, 1]⟩
abbrev S1x16x1024 : Shape := ⟨3, ![1, 16, 1024]⟩
abbrev S400x1024 : Shape := ⟨2, ![400, 1024]⟩
abbrev S4096x64 : Shape := ⟨2, ![4096, 64]⟩
abbrev S64x1024 : Shape := ⟨2, ![64, 1024]⟩
abbrev S1x1024 : Shape := ⟨2, ![1, 1024]⟩
abbrev S4096x1 : Shape := ⟨2, ![4096, 1]⟩
abbrev S4096x1024 : Shape := ⟨2, ![4096, 1024]⟩
abbrev S2048x1024 : Shape := ⟨2, ![2048, 1024]⟩
abbrev S1024x1024 : Shape := ⟨2, ![1024, 1024]⟩
abbrev S512x1024 : Shape := ⟨2, ![512, 1024]⟩
abbrev S256x1024 : Shape := ⟨2, ![256, 1024]⟩
abbrev S128x1024 : Shape := ⟨2, ![128, 1024]⟩
abbrev S32x1024 : Shape := ⟨2, ![32, 1024]⟩
abbrev S16x1024 : Shape := ⟨2, ![16, 1024]⟩
abbrev S8x1024 : Shape := ⟨2, ![8, 1024]⟩
abbrev S1024 : Shape := ⟨1, ![1024]⟩
abbrev S2x1024x16 : Shape := ⟨3, ![2, 1024, 16]⟩

abbrev nBuf : Space → Nat
  | .hbm => 89
  | .vmem => 14
  | .smem => 0
  | _ => 0

abbrev bufTy : (tb : Table) → Fin (tcTables nBuf tb) → BufTy
  | .hbm, ⟨0, _⟩ => ⟨S2x1024x64, .f32⟩
  | .hbm, ⟨1, _⟩ => ⟨S2x100000x64, .f32⟩
  | .hbm, ⟨2, _⟩ => ⟨S2x64x1024, .f32⟩
  | .hbm, ⟨3, _⟩ => ⟨S2x64x1024, .bf16⟩
  | .hbm, ⟨4, _⟩ => ⟨S2x1024x64, .f32⟩
  | .hbm, ⟨5, _⟩ => ⟨S2x1024x8x8, .f32⟩
  | .hbm, ⟨6, _⟩ => ⟨S2x1024x1x8, .f32⟩
  | .hbm, ⟨7, _⟩ => ⟨S2x1024x8, .f32⟩
  | .hbm, ⟨8, _⟩ => ⟨S2x1024x1x8, .f32⟩
  | .hbm, ⟨9, _⟩ => ⟨S2x1024x8, .f32⟩
  | .hbm, ⟨10, _⟩ => ⟨S2x1024x8, .f32⟩
  | .hbm, ⟨11, _⟩ => ⟨S2x1024x1x8, .f32⟩
  | .hbm, ⟨12, _⟩ => ⟨S2x1024x8, .f32⟩
  | .hbm, ⟨13, _⟩ => ⟨S2x1024x8, .f32⟩
  | .hbm, ⟨14, _⟩ => ⟨S2x1024x1x8, .f32⟩
  | .hbm, ⟨15, _⟩ => ⟨S2x1024x8, .f32⟩
  | .hbm, ⟨16, _⟩ => ⟨S2x1024x8, .f32⟩
  | .hbm, ⟨17, _⟩ => ⟨S2x1024x1x8, .f32⟩
  | .hbm, ⟨18, _⟩ => ⟨S2x1024x8, .f32⟩
  | .hbm, ⟨19, _⟩ => ⟨S2x1024x8, .f32⟩
  | .hbm, ⟨20, _⟩ => ⟨S2x1024x1x8, .f32⟩
  | .hbm, ⟨21, _⟩ => ⟨S2x1024x8, .f32⟩
  | .hbm, ⟨22, _⟩ => ⟨S2x1024x8, .f32⟩
  | .hbm, ⟨23, _⟩ => ⟨S2x1024x1x8, .f32⟩
  | .hbm, ⟨24, _⟩ => ⟨S2x1024x8, .f32⟩
  | .hbm, ⟨25, _⟩ => ⟨S2x1024x8, .f32⟩
  | .hbm, ⟨26, _⟩ => ⟨S2x1024x1x8, .f32⟩
  | .hbm, ⟨27, _⟩ => ⟨S2x1024x8, .f32⟩
  | .hbm, ⟨28, _⟩ => ⟨S2x1024x8, .f32⟩
  | .hbm, ⟨29, _⟩ => ⟨S2x1024x4, .f32⟩
  | .hbm, ⟨30, _⟩ => ⟨S2x1024x4, .f32⟩
  | .hbm, ⟨31, _⟩ => ⟨S2x1024x4, .f32⟩
  | .hbm, ⟨32, _⟩ => ⟨S2x1024x2, .f32⟩
  | .hbm, ⟨33, _⟩ => ⟨S2x1024x2, .f32⟩
  | .hbm, ⟨34, _⟩ => ⟨S2x1024x2, .f32⟩
  | .hbm, ⟨35, _⟩ => ⟨S2x1024x1, .f32⟩
  | .hbm, ⟨36, _⟩ => ⟨S2x1024, .f32⟩
  | .hbm, ⟨37, _⟩ => ⟨S2x1024x1, .f32⟩
  | .hbm, ⟨38, _⟩ => ⟨S2x1024, .f32⟩
  | .hbm, ⟨39, _⟩ => ⟨S2x1024, .f32⟩
  | .hbm, ⟨40, _⟩ => ⟨S2x1x1024, .f32⟩
  | .hbm, ⟨41, _⟩ => ⟨S2x100000x64, .f32⟩
  | .hbm, ⟨42, _⟩ => ⟨S2x100000x8x8, .f32⟩
  | .hbm, ⟨43, _⟩ => ⟨S2x100000x1x8, .f32⟩
  | .hbm, ⟨44, _⟩ => ⟨S2x100000x8, .f32⟩
  | .hbm, ⟨45, _⟩ => ⟨S2x100000x1x8, .f32⟩
  | .hbm, ⟨46, _⟩ => ⟨S2x100000x8, .f32⟩
  | .hbm, ⟨47, _⟩ => ⟨S2x100000x8, .f32⟩
  | .hbm, ⟨48, _⟩ => ⟨S2x100000x1x8, .f32⟩
  | .hbm, ⟨49, _⟩ => ⟨S2x100000x8, .f32⟩
  | .hbm, ⟨50, _⟩ => ⟨S2x100000x8, .f32⟩
  | .hbm, ⟨51, _⟩ => ⟨S2x100000x1x8, .f32⟩
  | .hbm, ⟨52, _⟩ => ⟨S2x100000x8, .f32⟩
  | .hbm, ⟨53, _⟩ => ⟨S2x100000x8, .f32⟩
  | .hbm, ⟨54, _⟩ => ⟨S2x100000x1x8, .f32⟩
  | .hbm, ⟨55, _⟩ => ⟨S2x100000x8, .f32⟩
  | .hbm, ⟨56, _⟩ => ⟨S2x100000x8, .f32⟩
  | .hbm, ⟨57, _⟩ => ⟨S2x100000x1x8, .f32⟩
  | .hbm, ⟨58, _⟩ => ⟨S2x100000x8, .f32⟩
  | .hbm, ⟨59, _⟩ => ⟨S2x100000x8, .f32⟩
  | .hbm, ⟨60, _⟩ => ⟨S2x100000x1x8, .f32⟩
  | .hbm, ⟨61, _⟩ => ⟨S2x100000x8, .f32⟩
  | .hbm, ⟨62, _⟩ => ⟨S2x100000x8, .f32⟩
  | .hbm, ⟨63, _⟩ => ⟨S2x100000x1x8, .f32⟩
  | .hbm, ⟨64, _⟩ => ⟨S2x100000x8, .f32⟩
  | .hbm, ⟨65, _⟩ => ⟨S2x100000x8, .f32⟩
  | .hbm, ⟨66, _⟩ => ⟨S2x100000x4, .f32⟩
  | .hbm, ⟨67, _⟩ => ⟨S2x100000x4, .f32⟩
  | .hbm, ⟨68, _⟩ => ⟨S2x100000x4, .f32⟩
  | .hbm, ⟨69, _⟩ => ⟨S2x100000x2, .f32⟩
  | .hbm, ⟨70, _⟩ => ⟨S2x100000x2, .f32⟩
  | .hbm, ⟨71, _⟩ => ⟨S2x100000x2, .f32⟩
  | .hbm, ⟨72, _⟩ => ⟨S2x100000x1, .f32⟩
  | .hbm, ⟨73, _⟩ => ⟨S2x100000, .f32⟩
  | .hbm, ⟨74, _⟩ => ⟨S2x100000x1, .f32⟩
  | .hbm, ⟨75, _⟩ => ⟨S2x100000, .f32⟩
  | .hbm, ⟨76, _⟩ => ⟨S2x100000, .f32⟩
  | .hbm, ⟨77, _⟩ => ⟨S_, .f32⟩
  | .hbm, ⟨78, _⟩ => ⟨S_, .f32⟩
  | .hbm, ⟨79, _⟩ => ⟨S2x102400, .f32⟩
  | .hbm, ⟨80, _⟩ => ⟨S50x4096x1, .f32⟩
  | .hbm, ⟨81, _⟩ => ⟨S2x100000x64, .bf16⟩
  | .hbm, ⟨82, _⟩ => ⟨S_, .i32⟩
  | .hbm, ⟨83, _⟩ => ⟨S_, .bf16⟩
  | .hbm, ⟨84, _⟩ => ⟨S2x102400x64, .bf16⟩
  | .hbm, ⟨85, _⟩ => ⟨S2x16x1024, .i32⟩
  | .hbm, ⟨86, _⟩ => ⟨S2x16x1024, .f32⟩
  | .hbm, ⟨87, _⟩ => ⟨S2x1024x16, .i32⟩
  | .hbm, ⟨88, _⟩ => ⟨S2x1024x16, .f32⟩
  | .local _ .vmem, ⟨0, _⟩ => ⟨S1x4096x64, .bf16⟩
  | .local _ .vmem, ⟨1, _⟩ => ⟨S1x4096x64, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x4096x1, .f32⟩
  | .local _ .vmem, ⟨7, _⟩ => ⟨S1x4096x1, .f32⟩
  | .local _ .vmem, ⟨8, _⟩ => ⟨S1x16x1024, .i32⟩
  | .local _ .vmem, ⟨9, _⟩ => ⟨S1x16x1024, .i32⟩
  | .local _ .vmem, ⟨10, _⟩ => ⟨S1x16x1024, .f32⟩
  | .local _ .vmem, ⟨11, _⟩ => ⟨S1x16x1024, .f32⟩
  | .local _ .vmem, ⟨12, _⟩ => ⟨S400x1024, .f32⟩
  | .local _ .vmem, ⟨13, _⟩ => ⟨S400x1024, .i32⟩
  | _, _ => ⟨S2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_cst : Ref sig .tc := ⟨.hbm, 77, rfl⟩
abbrev main_call0_v0 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_c : Ref sig .tc := ⟨.hbm, 82, rfl⟩
abbrev main_call1_v0 : Ref sig .tc := ⟨.hbm, 83, rfl⟩
abbrev main_v78 : Ref sig .tc := ⟨.hbm, 84, rfl⟩
abbrev main_v79_0 : Ref sig .tc := ⟨.hbm, 85, rfl⟩
abbrev main_v79_1 : Ref sig .tc := ⟨.hbm, 86, rfl⟩
abbrev main_v80 : Ref sig .tc := ⟨.hbm, 87, rfl⟩
abbrev main_v81 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 25], ![false, false]⟩

def k0_off1 (i : grid0.Coords) (c0_i32 : BitVec 32) : Fin 2 → Nat :=
  let arg1 : BitVec 32 := BitVec.ofNat 32 (i 1).val
  let c16_i32 : BitVec 32 := 16#32
  let v105 : BitVec 32 := Scalar.muli arg1 c16_i32
  let v106 : BitVec 32 := Scalar.addi v105 c0_i32
  let v107 : Index := Scalar.indexCast v106
  let c0_12 : Index := 0#32
  ![v107.toNat, 0]
def k0_cond1 (i : grid0.Coords) : BitVec 1 :=
  let arg1 : BitVec 32 := BitVec.ofNat 32 (i 1).val
  let c24_i32 : BitVec 32 := 24#32
  let v227 : BitVec 1 := Scalar.cmpi .eq arg1 c24_i32
  let v228 : BitVec 32 := Scalar.extui v227
  let c0_i32_23 : BitVec 32 := 0#32
  let v229 : BitVec 1 := Scalar.cmpi .ne v228 c0_i32_23
  v229

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x1024x64 : Shape := ⟨3, ![2, 1024, 64]⟩
abbrev S2x100000x64 : Shape := ⟨3, ![2, 100000, 64]⟩
abbrev S_ : Shape := ⟨0, ![]⟩
abbrev S2x1024 : Shape := ⟨2, ![2, 1024]⟩
abbrev S2x1024x1 : Shape := ⟨3, ![2, 1024, 1]⟩
abbrev S2x100000 : Shape := ⟨2, ![2, 100000]⟩
abbrev S2x1024x100000 : Shape := ⟨3, ![2, 1024, 100000]⟩
abbrev S2x1x100000 : Shape := ⟨3, ![2, 1, 100000]⟩
abbrev S2x1024x102400 : Shape := ⟨3, ![2, 1024, 102400]⟩
abbrev S2x1024x50x256x8 : Shape := ⟨5, ![2, 1024, 50, 256, 8]⟩
abbrev S102400 : Shape := ⟨1, ![102400]⟩
abbrev S50x256x8 : Shape := ⟨3, ![50, 256, 8]⟩
abbrev S2x1024x50x8 : Shape := ⟨4, ![2, 1024, 50, 8]⟩
abbrev S2x1024x50x1x8 : Shape := ⟨5, ![2, 1024, 50, 1, 8]⟩
abbrev S2x1024x400 : Shape := ⟨3, ![2, 1024, 400]⟩
abbrev S2x1024x16 : Shape := ⟨3, ![2, 1024, 16]⟩

abbrev nBuf : Space → Nat
  | .hbm => 42
  | .vmem => 0
  | .smem => 0
  | _ => 0

abbrev bufTy : (tb : Table) → Fin (tcTables nBuf tb) → BufTy
  | .hbm, ⟨0, _⟩ => ⟨S2x1024x64, .f32⟩
  | .hbm, ⟨1, _⟩ => ⟨S2x100000x64, .f32⟩
  | .hbm, ⟨2, _⟩ => ⟨S2x1024x64, .f32⟩
  | .hbm, ⟨3, _⟩ => ⟨S_, .f32⟩
  | .hbm, ⟨4, _⟩ => ⟨S2x1024, .f32⟩
  | .hbm, ⟨5, _⟩ => ⟨S2x1024x1, .f32⟩
  | .hbm, ⟨6, _⟩ => ⟨S2x100000x64, .f32⟩
  | .hbm, ⟨7, _⟩ => ⟨S_, .f32⟩
  | .hbm, ⟨8, _⟩ => ⟨S2x100000, .f32⟩
  | .hbm, ⟨9, _⟩ => ⟨S2x1024x100000, .f32⟩
  | .hbm, ⟨10, _⟩ => ⟨S2x1x100000, .f32⟩
  | .hbm, ⟨11, _⟩ => ⟨S2x1024x100000, .f32⟩
  | .hbm, ⟨12, _⟩ => ⟨S2x1024x100000, .f32⟩
  | .hbm, ⟨13, _⟩ => ⟨S2x1024x100000, .f32⟩
  | .hbm, ⟨14, _⟩ => ⟨S_, .f32⟩
  | .hbm, ⟨15, _⟩ => ⟨S2x1024x100000, .f32⟩
  | .hbm, ⟨16, _⟩ => ⟨S2x1024x100000, .f32⟩
  | .hbm, ⟨17, _⟩ => ⟨S2x1024x100000, .f32⟩
  | .hbm, ⟨18, _⟩ => ⟨S_, .f32⟩
  | .hbm, ⟨19, _⟩ => ⟨S_, .f32⟩
  | .hbm, ⟨20, _⟩ => ⟨S2x1024x102400, .f32⟩
  | .hbm, ⟨21, _⟩ => ⟨S2x1024x50x256x8, .f32⟩
  | .hbm, ⟨22, _⟩ => ⟨S102400, .i32⟩
  | .hbm, ⟨23, _⟩ => ⟨S50x256x8, .i32⟩
  | .hbm, ⟨24, _⟩ => ⟨S_, .f32⟩
  | .hbm, ⟨25, _⟩ => ⟨S2x1024x50x8, .f32⟩
  | .hbm, ⟨26, _⟩ => ⟨S2x1024x50x1x8, .f32⟩
  | .hbm, ⟨27, _⟩ => ⟨S2x1024x50x256x8, .f32⟩
  | .hbm, ⟨28, _⟩ => ⟨S2x1024x50x256x8, .i1⟩
  | .hbm, ⟨29, _⟩ => ⟨S_, .i32⟩
  | .hbm, ⟨30, _⟩ => ⟨S_, .i32⟩
  | .hbm, ⟨31, _⟩ => ⟨S2x1024x50x256x8, .i32⟩
  | .hbm, ⟨32, _⟩ => ⟨S2x1024x50x256x8, .i32⟩
  | .hbm, ⟨33, _⟩ => ⟨S2x1024x50x256x8, .i32⟩
  | .hbm, ⟨34, _⟩ => ⟨S_, .i32⟩
  | .hbm, ⟨35, _⟩ => ⟨S2x1024x50x8, .i32⟩
  | .hbm, ⟨36, _⟩ => ⟨S2x1024x400, .f32⟩
  | .hbm, ⟨37, _⟩ => ⟨S2x1024x400, .i32⟩
  | .hbm, ⟨38, _⟩ => ⟨S2x1024x400, .f32⟩
  | .hbm, ⟨39, _⟩ => ⟨S2x1024x400, .i32⟩
  | .hbm, ⟨40, _⟩ => ⟨S2x1024x16, .i32⟩
  | .hbm, ⟨41, _⟩ => ⟨S2x1024x16, .f32⟩
  | _, _ => ⟨S2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Proof.Run.lean ====
/- One grid point of the kernel, by its memory operations: what it leaves in its scratch and in its result blocks, from what it reads. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.WritesUnit
public import Idealize.ShloMosaic.Lib.VecWindow
public import Idealize.ShloMosaic.Lib.WholeRead
public import Idealize.ShloMosaic.Lib.Pointwise.Index

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What a point stores -/

section Stored
variable (x0 : Vec F S1x4096x64 .bf16) (x1 : Vec F S1x64x1024 .bf16) (x2 : Vec F S1x1x1024 .f32) (x3 : Vec F S1x4096x1 .f32)

/-- The eight least distances of the first half of a chunk, one for each residue of the row. -/
def val0 : Vec F S8x1024 .f32 :=
  k0_pay126 (k0_pay125 (k0_pay84 x0 x1 x2 x3) (k0_pay85 x0 x1 x2 x3) (k0_pay86 x0 x1 x2 x3) (k0_pay87 x0 x1 x2 x3) (k0_pay88 x0 x1 x2 x3))
/-- The rows of the array at which they stand. -/
def idx0 (i : grid0.Coords) : Vec F S8x1024 .i32 :=
  k0_pay127 (BitVec.ofNat 32 (i 1).val) (k0_pay122 (k0_pay84 x0 x1 x2 x3) (k0_pay85 x0 x1 x2 x3) (k0_pay86 x0 x1 x2 x3) (k0_pay87 x0 x1 x2 x3) (k0_pay88 x0 x1 x2 x3))
    (k0_pay123 (k0_pay84 x0 x1 x2 x3) (k0_pay85 x0 x1 x2 x3) (k0_pay86 x0 x1 x2 x3) (k0_pay87 x0 x1 x2 x3) (k0_pay88 x0 x1 x2 x3))
    (k0_pay124 (k0_pay84 x0 x1 x2 x3) (k0_pay85 x0 x1 x2 x3) (k0_pay86 x0 x1 x2 x3) (k0_pay87 x0 x1 x2 x3) (k0_pay88 x0 x1 x2 x3))
/-- The same of the second half: the values, -/
def val1 : Vec F S8x1024 .f32 :=
  k0_pay1 (k0_pay183 (k0_pay143 (k0_pay68 x0 x1 x2 x3)) (k0_pay144 (k0_pay68 x0 x1 x2 x3)) (k0_pay145 (k0_pay68 x0 x1 x2 x3)) (k0_pay146 (k0_pay68 x0 x1 x2 x3)) (k0_pay147 (k0_pay68 x0 x1 x2 x3)))
/-- and the rows. -/
def idx1 (i : grid0.Coords) : Vec F S8x1024 .i32 :=
  k0_pay2 (BitVec.ofNat 32 (i 1).val) (k0_pay184 (k0_pay143 (k0_pay68 x0 x1 x2 x3)) (k0_pay144 (k0_pay68 x0 x1 x2 x3)) (k0_pay145 (k0_pay68 x0 x1 x2 x3)) (k0_pay146 (k0_pay68 x0 x1 x2 x3)) (k0_pay147 (k0_pay68 x0 x1 x2 x3)))
end Stored

/-- An array of 400 rows with the eight rows from `o` on replaced by `a` and the eight after these by `b`. -/
def putRows {α : Type} (o : ℕ) (a b : S8x1024.Idx → α) (e : S400x1024.Idx → α) : S400x1024.Idx → α := fun y =>
  if h : o + 8 ≤ (y (0 : Fin 2)).val ∧ (y (0 : Fin 2)).val < o + 8 + 8 then b (ix2 ⟨(y (0 : Fin 2)).val - (o + 8), by omega⟩ (y (1 : Fin 2)))
  else if h : o ≤ (y (0 : Fin 2)).val ∧ (y (0 : Fin 2)).val < o + 8 then a (ix2 ⟨(y (0 : Fin 2)).val - o, by omega⟩ (y (1 : Fin 2)))
  else e y

/-- The scratch of values after a point. -/
def stV (i : grid0.Coords) (x0 : Vec F S1x4096x64 .bf16) (x1 : Vec F S1x64x1024 .bf16) (x2 : Vec F S1x1x1024 .f32) (x3 : Vec F S1x4096x1 .f32) (e : Vec F S400x1024 .f32) : Vec F S400x1024 .f32 :=
  putRows (16 * (i 1).val) (val0 x0 x1 x2 x3) (val1 x0 x1 x2 x3) e
/-- The scratch of rows after a point. -/
def stI (i : grid0.Coords) (x0 : Vec F S1x4096x64 .bf16) (x1 : Vec F S1x64x1024 .bf16) (x2 : Vec F S1x1x1024 .f32) (x3 : Vec F S1x4096x1 .f32) (e : Vec F S400x1024 .i32) : Vec F S400x1024 .i32 :=
  putRows (16 * (i 1).val) (idx0 x0 x1 x2 x3 i) (idx1 x0 x1 x2 x3 i) e

/-- The first row that a point's stores of its two halves touch. -/
theorem off_lo (i : grid0.Coords) : k0_off1 i 0#32 = ![16 * (i 1).val, 0] := k0_off1_eq i 0
theorem off_hi (i : grid0.Coords) : k0_off1 i 8#32 = ![16 * (i 1).val + 8, 0] := k0_off1_eq i 1

/-- Two stores of eight rows each, read back. -/
theorem read_two {e : EltTy} (v : View sig .tc .vmem S400x1024 e) (f : v.ty.Contents (Elt F)) (o o' : Fin 2 → ℕ) (n : ℕ)
    (inb : ∀ a, o a + S8x1024.size a ≤ S400x1024.size a) (inb' : ∀ a, o' a + S8x1024.size a ≤ S400x1024.size a)
    (ho : o = ![n, 0]) (ho' : o' = ![n + 8, 0]) (a b : S8x1024.Idx → Elt F e) :
    v.read (Elt F) (v.writes (Elt F) f [⟨Rect.unit (s := S400x1024) o' S8x1024.size inb', b⟩, ⟨Rect.unit (s := S400x1024) o S8x1024.size inb, a⟩])
      = putRows n a b (v.read (Elt F) f) := by
  funext y
  refine (View.read_writes_cons_rows v f inb' b _ y (W := 8) ho' rfl rfl).trans ?_
  unfold putRows
  by_cases h : n + 8 ≤ (y (0 : Fin 2)).val ∧ (y (0 : Fin 2)).val < n + 8 + 8
  · rw [dif_pos h, dif_pos h]
    exact congrArg b (funext fun k => Fin.ext (by fin_cases k <;> rfl))
  · rw [dif_neg h, dif_neg h]
    refine (View.read_writes_cons_rows v f inb a _ y (W := 8) ho rfl rfl).trans ?_
    by_cases h' : n ≤ (y (0 : Fin 2)).val ∧ (y (0 : Fin 2)).val < n + 8
    · rw [dif_pos h', dif_pos h']
      exact congrArg a (funext fun k => Fin.ext (by fin_cases k <;> rfl))
    · rw [dif_neg h', dif_neg h', View.writes_nil]

/-! ## What the last point of a batch writes -/

/-- The numbers of the rows of the scratch. -/
abbrev pos : IVec S400x1024 32 := iota .tc S400x1024 32 [0] iota_S400x1024_d0_w32
section Extract
variable (v : Vec F S400x1024 .f32) (w : Vec F S400x1024 .i32)
def u2 : Vec F S400x1024 .f32 := k0_pay12 v
def c2 : IVec S400x1024 32 := k0_pay14 v
def u5 : Vec F S400x1024 .f32 := k0_pay25 pos (u2 v) (c2 v)
def m5 : Vec F S1x1024 .f32 := k0_pay26 pos (u2 v) (c2 v)
def u7 : Vec F S400x1024 .f32 := k0_pay33 pos (u5 v) (m5 v)
def h7 : IVec S400x1024 1 := k0_pay35 pos (u5 v) (m5 v)
def u10 : Vec F S400x1024 .f32 := k0_pay45 pos (u7 v) (h7 v)
def h10 : IVec S400x1024 1 := k0_pay47 pos (u7 v) (h7 v)
def u13 : Vec F S400x1024 .f32 := k0_pay57 pos (u10 v) (h10 v)
def e13 : IVec S400x1024 1 := k0_pay59 pos (u10 v) (h10 v)

/-- The block of values that the extraction writes. -/
def outVal : Vec F S1x16x1024 .f32 :=
  k0_pay4 (k0_pay5 v) (k0_pay9 v) (k0_pay13 v) (k0_pay18 pos (u2 v) (c2 v)) (k0_pay22 pos (u2 v) (c2 v)) (m5 v)
    (k0_pay30 pos (u5 v) (m5 v)) (k0_pay34 pos (u5 v) (m5 v)) (k0_pay38 (u7 v) (h7 v)) (k0_pay42 pos (u7 v) (h7 v))
    (k0_pay46 pos (u7 v) (h7 v)) (k0_pay50 (u10 v) (h10 v)) (k0_pay54 pos (u10 v) (h10 v)) (k0_pay58 pos (u10 v) (h10 v))
    (k0_pay63 pos (u13 v) (e13 v) k0_pay60) (k0_pay66 pos (u13 v) (e13 v) k0_pay60)
/-- The block of rows that it writes. -/
def outIdx : Vec F S1x16x1024 .i32 :=
  k0_pay3 (k0_pay67 w pos (k0_pay7 v w) (k0_pay11 v w) (k0_pay16 w pos (c2 v)) (k0_pay20 w pos (u2 v) (c2 v)) (k0_pay24 w pos (u2 v) (c2 v))
    (k0_pay28 w pos (u5 v) (m5 v)) (k0_pay32 w pos (u5 v) (m5 v)) (k0_pay36 w pos (u5 v) (m5 v)) (k0_pay40 w pos (u7 v) (h7 v))
    (k0_pay44 w pos (u7 v) (h7 v)) (k0_pay48 w (h10 v)) (k0_pay52 w pos (u10 v) (h10 v)) (k0_pay56 w pos (u10 v) (h10 v))
    (u13 v) (e13 v) k0_pay60)
end Extract

set_option maxHeartbeats 1000000 in
/-- A point that is not the last of its batch: the scratch takes sixteen new rows. -/
theorem run_A (c : Dev nD) (i : grid0.Coords) (arg2 : Memref sig .tc .vmem S1x4096x64 .bf16) (harg2 : arg2.IsWhole) (arg3 : Memref sig .tc .vmem S1x64x1024 .bf16) (harg3 : arg3.IsWhole) (arg4 : Memref sig .tc .vmem S1x1x1024 .f32) (harg4 : arg4.IsWhole) (arg5 : Memref sig .tc .vmem S1x4096x1 .f32) (harg5 : arg5.IsWhole)
    (arg6 : Memref sig .tc .vmem S1x16x1024 .i32) (harg6 : arg6.IsWhole) (arg7 : Memref sig .tc .vmem S1x16x1024 .f32) (harg7 : arg7.IsWhole) (arg8 : Memref sig .tc .vmem S400x1024 .f32) (harg8 : arg8.IsWhole) (arg9 : Memref sig .tc .vmem S400x1024 .i32) (harg9 : arg9.IsWhole)
    (hc0 : ¬ k0_cond1 i = 1#1) (x0 : Vec F S1x4096x64 .bf16) (x1 : Vec F S1x64x1024 .bf16) (x2 : Vec F S1x1x1024 .f32) (x3 : Vec F S1x4096x1 .f32) (y4 : Vec F S1x16x1024 .i32) (y5 : Vec F S1x16x1024 .f32) (e0 : Vec F S400x1024 .f32) (e1 : Vec F S400x1024 .i32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare y4 ∗ owns (c : Thread nD τ) arg7 fullShare y5 ∗ owns (c : Thread nD τ) arg8 fullShare (e0) ∗ owns (c : Thread nD τ) arg9 fullShare (e1)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare y4 ∗ owns (c : Thread nD τ) arg7 fullShare y5 ∗ owns (c : Thread nD τ) arg8 fullShare (stV i x0 x1 x2 x3 e0) ∗ owns (c : Thread nD τ) arg9 fullShare (stI i x0 x1 x2 x3 e1)) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
    intro E K
    simp only [cc0__body_eq_skeleton]; unfold cc0__body_skel
    simp only [k0_part7_eq_skeleton, k0_part8_eq_skeleton, k0_part9_eq_skeleton, k0_part10_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg8.eq_unread hs0; obtain rfl := harg9.eq_unread hs1; obtain rfl := harg6.eq_unread hf4; obtain rfl := harg7.eq_unread hf5
    sl_exec (disch := first | sl_exact hc0)
    have e2 : ∀ inb, View.readAt (Elt F) arg2.view (Rect.unit (s := S1x4096x64) ![0, 0, 0] S1x4096x64.size inb).toLoadRect (harg2.unread x0) = x0 := fun inb => (View.readAt_full arg2.view _ inb).trans (harg2.read_unread x0)
    have e3 : ∀ inb, View.readAt (Elt F) arg3.view (Rect.unit (s := S1x64x1024) ![0, 0, 0] S1x64x1024.size inb).toLoadRect (harg3.unread x1) = x1 := fun inb => (View.readAt_full arg3.view _ inb).trans (harg3.read_unread x1)
    have e4 : ∀ inb, View.readAt (Elt F) arg4.view (Rect.unit (s := S1x1x1024) ![0, 0, 0] S1x1x1024.size inb).toLoadRect (harg4.unread x2) = x2 := fun inb => (View.readAt_full arg4.view _ inb).trans (harg4.read_unread x2)
    have e5 : ∀ inb, View.readAt (Elt F) arg5.view (Rect.unit (s := S1x4096x1) ![0, 0, 0] S1x4096x1.size inb).toLoadRect (harg5.unread x3) = x3 := fun inb => (View.readAt_full arg5.view _ inb).trans (harg5.read_unread x3)
    have t8 : ∀ inb inb', View.read (Elt F) arg8.view (arg8.view.writes (Elt F) (harg8.unread e0) [⟨Rect.unit (s := S400x1024) (k0_off1 i 8#32) S8x1024.size inb', val1 x0 x1 x2 x3⟩, ⟨Rect.unit (s := S400x1024) (k0_off1 i 0#32) S8x1024.size inb, val0 x0 x1 x2 x3⟩]) = stV i x0 x1 x2 x3 e0 := fun inb inb' =>
      (read_two arg8.view _ _ _ _ inb inb' (off_lo i) (off_hi i) _ _).trans (by rw [harg8.read_unread]; rfl)
    have t9 : ∀ inb inb', View.read (Elt F) arg9.view (arg9.view.writes (Elt F) (harg9.unread e1) [⟨Rect.unit (s := S400x1024) (k0_off1 i 8#32) S8x1024.size inb', idx1 x0 x1 x2 x3 i⟩, ⟨Rect.unit (s := S400x1024) (k0_off1 i 0#32) S8x1024.size inb, idx0 x0 x1 x2 x3 i⟩]) = stI i x0 x1 x2 x3 e1 := fun inb inb' =>
      (read_two arg9.view _ _ _ _ inb inb' (off_lo i) (off_hi i) _ _).trans (by rw [harg9.read_unread]; rfl)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]
    · iexists _; isplitr; swap; · iexact HS0
      ipureintro
      sl_unfold_words
      simp only [e2, e3, e4, e5]
      exact t8 _ _
    iexists _; isplitr; swap; · iexact HS1
    ipureintro
    sl_unfold_words
    simp only [e2, e3, e4, e5]
    exact t9 _ _

end Cert.KernelIdeal.Knn

end
-- ==== Proof.RunB.lean ====
/- The last grid point of a batch: the extraction of the sixteen least entries, by its memory operations. -/
module

public import proofs.«01_k».proof.Proof.Run

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 1000000 in
/-- The last point of a batch: the scratch takes its rows, and the extraction of its sixteen least is written. -/
theorem run_B (c : Dev nD) (i : grid0.Coords) (arg2 : Memref sig .tc .vmem S1x4096x64 .bf16) (harg2 : arg2.IsWhole) (arg3 : Memref sig .tc .vmem S1x64x1024 .bf16) (harg3 : arg3.IsWhole) (arg4 : Memref sig .tc .vmem S1x1x1024 .f32) (harg4 : arg4.IsWhole) (arg5 : Memref sig .tc .vmem S1x4096x1 .f32) (harg5 : arg5.IsWhole)
    (arg6 : Memref sig .tc .vmem S1x16x1024 .i32) (harg6 : arg6.IsWhole) (arg7 : Memref sig .tc .vmem S1x16x1024 .f32) (harg7 : arg7.IsWhole) (arg8 : Memref sig .tc .vmem S400x1024 .f32) (harg8 : arg8.IsWhole) (arg9 : Memref sig .tc .vmem S400x1024 .i32) (harg9 : arg9.IsWhole)
    (hc0 : k0_cond1 i = 1#1) (x0 : Vec F S1x4096x64 .bf16) (x1 : Vec F S1x64x1024 .bf16) (x2 : Vec F S1x1x1024 .f32) (x3 : Vec F S1x4096x1 .f32) (e0 : Vec F S400x1024 .f32) (e1 : Vec F S400x1024 .i32) :
      ∀ (E : Set ℕ) (K : PUnit → sProp 𝕄),
        iprop(owns (c : Thread nD τ) arg2 fullShare (x0) ∗ owns (c : Thread nD τ) arg3 fullShare (x1) ∗ owns (c : Thread nD τ) arg4 fullShare (x2) ∗ owns (c : Thread nD τ) arg5 fullShare (x3) ∗ (∃ d, owns (c : Thread nD τ) arg6 fullShare d) ∗ (∃ d, owns (c : Thread nD τ) arg7 fullShare d) ∗ owns (c : Thread nD τ) arg8 fullShare (e0) ∗ owns (c : Thread nD τ) arg9 fullShare (e1)
            ∗ (iprop(owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (outIdx (stV i x0 x1 x2 x3 e0) (stI i x0 x1 x2 x3 e1)) ∗ owns (c : Thread nD τ) arg7 fullShare (outVal (stV i x0 x1 x2 x3 e0)) ∗ owns (c : Thread nD τ) arg8 fullShare (stV i x0 x1 x2 x3 e0) ∗ owns (c : Thread nD τ) arg9 fullShare (stI i x0 x1 x2 x3 e1)) -∗ K ⟨⟩))
          ⊢ wp frame (wpE (defs₀ (F := F)) Variants.none c none) E (cc0__body i arg2 harg2 arg3 harg3 arg4 harg4 arg5 harg5 arg6 harg6 arg7 harg7 arg8 harg8 arg9 harg9) K := by
    intro E K
    simp only [cc0__body_eq_skeleton]; unfold cc0__body_skel
    simp only [k0_part7_eq_skeleton, k0_part8_eq_skeleton, k0_part9_eq_skeleton, k0_part10_eq_skeleton, k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg8.eq_unread hs0; obtain rfl := harg9.eq_unread hs1
    sl_exec (disch := first | sl_exact hc0)
    have e2 : ∀ inb, View.readAt (Elt F) arg2.view (Rect.unit (s := S1x4096x64) ![0, 0, 0] S1x4096x64.size inb).toLoadRect (harg2.unread x0) = x0 := fun inb => (View.readAt_full arg2.view _ inb).trans (harg2.read_unread x0)
    have e3 : ∀ inb, View.readAt (Elt F) arg3.view (Rect.unit (s := S1x64x1024) ![0, 0, 0] S1x64x1024.size inb).toLoadRect (harg3.unread x1) = x1 := fun inb => (View.readAt_full arg3.view _ inb).trans (harg3.read_unread x1)
    have e4 : ∀ inb, View.readAt (Elt F) arg4.view (Rect.unit (s := S1x1x1024) ![0, 0, 0] S1x1x1024.size inb).toLoadRect (harg4.unread x2) = x2 := fun inb => (View.readAt_full arg4.view _ inb).trans (harg4.read_unread x2)
    have e5 : ∀ inb, View.readAt (Elt F) arg5.view (Rect.unit (s := S1x4096x1) ![0, 0, 0] S1x4096x1.size inb).toLoadRect (harg5.unread x3) = x3 := fun inb => (View.readAt_full arg5.view _ inb).trans (harg5.read_unread x3)
    have t8 : ∀ inb inb', View.read (Elt F) arg8.view (arg8.view.writes (Elt F) (harg8.unread e0) [⟨Rect.unit (s := S400x1024) (k0_off1 i 8#32) S8x1024.size inb', val1 x0 x1 x2 x3⟩, ⟨Rect.unit (s := S400x1024) (k0_off1 i 0#32) S8x1024.size inb, val0 x0 x1 x2 x3⟩]) = stV i x0 x1 x2 x3 e0 := fun inb inb' =>
      (read_two arg8.view _ _ _ _ inb inb' (off_lo i) (off_hi i) _ _).trans (by rw [harg8.read_unread]; rfl)
    have t9 : ∀ inb inb', View.read (Elt F) arg9.view (arg9.view.writes (Elt F) (harg9.unread e1) [⟨Rect.unit (s := S400x1024) (k0_off1 i 8#32) S8x1024.size inb', idx1 x0 x1 x2 x3 i⟩, ⟨Rect.unit (s := S400x1024) (k0_off1 i 0#32) S8x1024.size inb, idx0 x0 x1 x2 x3 i⟩]) = stI i x0 x1 x2 x3 e1 := fun inb inb' =>
      (read_two arg9.view _ _ _ _ inb inb' (off_lo i) (off_hi i) _ _).trans (by rw [harg9.read_unread]; rfl)
    have ev : run_B.sl.v230 c i arg2 harg2 arg3 harg3 arg4 harg4 arg5 harg5 arg8 harg8 x0 x1 x2 x3 e0 = stV i x0 x1 x2 x3 e0 := by
      unfold run_B.sl.v230
      refine (View.readAt_full arg8.view _ _).trans ?_
      sl_unfold_words
      simp only [e2, e3, e4, e5]
      exact t8 _ _
    have ew : run_B.sl.v231 c i arg2 harg2 arg3 harg3 arg4 harg4 arg5 harg5 arg9 harg9 x0 x1 x2 x3 e1 = stI i x0 x1 x2 x3 e1 := by
      unfold run_B.sl.v231
      refine (View.readAt_full arg9.view _ _).trans ?_
      sl_unfold_words
      simp only [e2, e3, e4, e5]
      exact t9 _ _
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      refine (View.read_writes_full arg6.view _ _ _ _).trans ?_
      rw [← ev, ← ew]
      rfl
    isplitl [H5]
    · iexists _; isplitr; swap; · iexact H5
      ipureintro
      refine (View.read_writes_full arg7.view _ _ _ _).trans ?_
      rw [← ev]
      rfl
    isplitl [HS0]
    · iexists _; isplitr; swap; · iexact HS0
      ipureintro
      sl_unfold_words
      simp only [e2, e3, e4, e5]
      exact t8 _ _
    iexists _; isplitr; swap; · iexact HS1
    ipureintro
    sl_unfold_words
    simp only [e2, e3, e4, e5]
    exact t9 _ _

end Cert.KernelIdeal.Knn

end
-- ==== Proof.Launch.lean ====
/- The launch: what the scratch holds from point to point, the result blocks of each batch, and the run of the program. -/
module

public import proofs.«01_k».proof.Proof.RunB
public import Idealize.ShloMosaic.Lib.Claim

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The points and the memrefs the body runs on -/

/-- The last point of a batch is the one of chunk 24. -/
theorem cond_iff (t : Fin cfg0.N) : k0_cond1 (grid0.coords t) = 1#1 ↔ t.val % 25 = 24 := by
  have ht : t.val < 50 := Nat.lt_of_lt_of_eq t.isLt N_0
  have e1 : (grid0.coords t 1).val = t.val / 1 % 25 := Pipeline.Grid.coords_val t 1 (by decide) rfl
  simp only [k0_cond1, e1]
  word_cmp
theorem coord1 (t : Fin cfg0.N) : (grid0.coords t 1).val = t.val % 25 := by
  have e1 : (grid0.coords t 1).val = t.val / 1 % 25 := Pipeline.Grid.coords_val t 1 (by decide) rfl
  rw [e1, Nat.div_one]
theorem coord0 (t : Fin cfg0.N) : (grid0.coords t 0).val = t.val / 25 := by
  have ht : t.val < 50 := Nat.lt_of_lt_of_eq t.isLt N_0
  have e1 : (grid0.coords t 0).val = t.val / 25 % 2 := Pipeline.Grid.coords_val t 0 (by decide) rfl
  rw [e1]; omega

abbrev buf0 (t : Fin cfg0.N) : Memref sig .tc .vmem S1x4096x64 .bf16 := win0_0.stage (cfg0.slots t 0)
abbrev bufW0 (t : Fin cfg0.N) : (buf0 t).IsWhole := hstage0_0 ((cfg0.slots t 0).cast nbuf0_0)
abbrev buf1 (t : Fin cfg0.N) : Memref sig .tc .vmem S1x64x1024 .bf16 := win0_1.stage (cfg0.slots t 1)
abbrev bufW1 (t : Fin cfg0.N) : (buf1 t).IsWhole := hstage0_1 ((cfg0.slots t 1).cast nbuf0_1)
abbrev buf2 (t : Fin cfg0.N) : Memref sig .tc .vmem S1x1x1024 .f32 := win0_2.stage (cfg0.slots t 2)
abbrev bufW2 (t : Fin cfg0.N) : (buf2 t).IsWhole := hstage0_2 ((cfg0.slots t 2).cast nbuf0_2)
abbrev buf3 (t : Fin cfg0.N) : Memref sig .tc .vmem S1x4096x1 .f32 := win0_3.stage (cfg0.slots t 3)
abbrev bufW3 (t : Fin cfg0.N) : (buf3 t).IsWhole := hstage0_3 ((cfg0.slots t 3).cast nbuf0_3)
abbrev buf4 (t : Fin cfg0.N) : Memref sig .tc .vmem S1x16x1024 .i32 := win0_4.stage (cfg0.slots t 4)
abbrev bufW4 (t : Fin cfg0.N) : (buf4 t).IsWhole := hstage0_4 ((cfg0.slots t 4).cast nbuf0_4)
abbrev buf5 (t : Fin cfg0.N) : Memref sig .tc .vmem S1x16x1024 .f32 := win0_5.stage (cfg0.slots t 5)
abbrev bufW5 (t : Fin cfg0.N) : (buf5 t).IsWhole := hstage0_5 ((cfg0.slots t 5).cast nbuf0_5)
abbrev scr0 : Memref sig .tc .vmem S400x1024 .f32 := Memref.whole cc0_scratch0
abbrev scr1 : Memref sig .tc .vmem S400x1024 .i32 := Memref.whole cc0_scratch1

/-- What the region finds and leaves beside the windows: the two scratch arrays and the generator's register. -/
theorem scoped_eq (c : Dev nD) :
    (Pipeline.ΦA spec0 c : sProp 𝕄)
      = iprop(iprop((∃ d, owns (c : Thread nD τ) scr0 fullShare d) ∗ (∃ d, owns (c : Thread nD τ) scr1 fullShare d)) ∗ (∃ r, prngReg c r)) := by
  unfold Pipeline.ΦA; rw [scopedRest0_eq]; simp only [scr0, scr1, owns_whole]; try rfl

variable (m : (ℓ : Loc nD τ sig) → Buf (Elt F) ℓ) (ρ : Dev nD → PrngReg)

/-! ## The scratch of a batch -/

/-- The point of chunk `k` of batch `b`. -/
def pt (b k : ℕ) : Fin cfg0.N := ⟨(25 * b + k) % 50, lt_of_lt_of_eq (Nat.mod_lt _ (by decide)) N_0.symm⟩
theorem pt_self (t : Fin cfg0.N) : pt (t.val / 25) (t.val % 25) = t := by
  have ht : t.val < 50 := Nat.lt_of_lt_of_eq t.isLt N_0
  exact Fin.ext (by show (25 * (t.val / 25) + t.val % 25) % 50 = t.val; omega)

/-- Window 0's block at a point. -/
abbrev X0 (c : Dev nD) (t : Fin cfg0.N) : Vec F S1x4096x64 .bf16 := iblk m c 0 t
/-- Window 1's block at a point. -/
abbrev X1 (c : Dev nD) (t : Fin cfg0.N) : Vec F S1x64x1024 .bf16 := iblk m c 1 t
/-- Window 2's block at a point. -/
abbrev X2 (c : Dev nD) (t : Fin cfg0.N) : Vec F S1x1x1024 .f32 := iblk m c 2 t
/-- Window 3's block at a point. -/
abbrev X3 (c : Dev nD) (t : Fin cfg0.N) : Vec F S1x4096x1 .f32 := iblk m c 3 t

/-- The row `n` of the scratch that a point fills, from the two blocks of eight rows it stores. -/
def rowOf {α : Type} (a b : S8x1024.Idx → α) (n : ℕ) (q : Fin 1024) : α :=
  if n % 16 < 8 then a (ix2 ⟨n % 8, Nat.mod_lt _ (by decide)⟩ q) else b (ix2 ⟨n % 8, Nat.mod_lt _ (by decide)⟩ q)

/-- The values in the scratch once all chunks of batch `b` have run, -/
def scV (c : Dev nD) (b : ℕ) : Vec F S400x1024 .f32 := fun y =>
  let t := pt b ((y (0 : Fin 2)).val / 16)
  rowOf (val0 (X0 m c t) (X1 m c t) (X2 m c t) (X3 m c t)) (val1 (X0 m c t) (X1 m c t) (X2 m c t) (X3 m c t)) (y (0 : Fin 2)).val (y (1 : Fin 2))
/-- and the rows. -/
def scI (c : Dev nD) (b : ℕ) : Vec F S400x1024 .i32 := fun y =>
  let t := pt b ((y (0 : Fin 2)).val / 16)
  rowOf (idx0 (X0 m c t) (X1 m c t) (X2 m c t) (X3 m c t) (grid0.coords t)) (idx1 (X0 m c t) (X1 m c t) (X2 m c t) (X3 m c t) (grid0.coords t)) (y (0 : Fin 2)).val (y (1 : Fin 2))

/-- The rows of the chunks of the current batch that have run before point `n` hold what the batch leaves there. -/
def Filled (c : Dev nD) (n : ℕ) (d0 : Vec F S400x1024 .f32) (d1 : Vec F S400x1024 .i32) : Prop :=
  ∀ y : S400x1024.Idx, (y (0 : Fin 2)).val / 16 < n % 25 → d0 y = scV m c (n / 25) y ∧ d1 y = scI m c (n / 25) y

/-- Sixteen rows put at `16 k`, read at a row of these. -/
theorem putRows_at {α : Type} (k : ℕ) (a b : S8x1024.Idx → α) (e : S400x1024.Idx → α) (y : S400x1024.Idx)
    (h : (y (0 : Fin 2)).val / 16 = k) : putRows (16 * k) a b e y = rowOf a b (y (0 : Fin 2)).val (y (1 : Fin 2)) := by
  unfold putRows rowOf
  have h1 : 16 * k ≤ (y (0 : Fin 2)).val := by omega
  have h2 : (y (0 : Fin 2)).val < 16 * k + 16 := by omega
  by_cases h8 : (y (0 : Fin 2)).val % 16 < 8
  · rw [dif_neg (by omega), dif_pos (by omega), if_pos h8]
    exact congrArg a (congrArg (fun r => ix2 r (y (1 : Fin 2))) (Fin.ext (by show (y (0 : Fin 2)).val - 16 * k = (y (0 : Fin 2)).val % 8; omega)))
  · rw [dif_pos (by omega), if_neg h8]
    exact congrArg b (congrArg (fun r => ix2 r (y (1 : Fin 2))) (Fin.ext (by show (y (0 : Fin 2)).val - (16 * k + 8) = (y (0 : Fin 2)).val % 8; omega)))
/-- Elsewhere nothing changes. -/
theorem putRows_off {α : Type} (k : ℕ) (a b : S8x1024.Idx → α) (e : S400x1024.Idx → α) (y : S400x1024.Idx)
    (h : (y (0 : Fin 2)).val / 16 ≠ k) : putRows (16 * k) a b e y = e y := by
  unfold putRows
  rw [dif_neg (by omega), dif_neg (by omega)]

/-- After point `t` the scratch holds the rows of chunk `t % 25` too. -/
theorem step_row (c : Dev nD) (t : Fin cfg0.N) (d0 : Vec F S400x1024 .f32) (d1 : Vec F S400x1024 .i32) (h : Filled m c t.val d0 d1)
    (y : S400x1024.Idx) (hy : (y (0 : Fin 2)).val / 16 < t.val % 25 + 1) :
    stV (grid0.coords t) (X0 m c t) (X1 m c t) (X2 m c t) (X3 m c t) d0 y = scV m c (t.val / 25) y ∧ stI (grid0.coords t) (X0 m c t) (X1 m c t) (X2 m c t) (X3 m c t) d1 y = scI m c (t.val / 25) y := by
  unfold stV stI
  rw [coord1]
  by_cases e : (y (0 : Fin 2)).val / 16 = t.val % 25
  · rw [putRows_at _ _ _ _ y e, putRows_at _ _ _ _ y e]
    unfold scV scI
    dsimp only
    rw [e, pt_self]
    exact ⟨rfl, rfl⟩
  · rw [putRows_off _ _ _ _ y e, putRows_off _ _ _ _ y e]
    exact h y (by omega)
theorem step_filled (c : Dev nD) (t : Fin cfg0.N) (d0 : Vec F S400x1024 .f32) (d1 : Vec F S400x1024 .i32) (h : Filled m c t.val d0 d1) :
    Filled m c (t.val + 1) (stV (grid0.coords t) (X0 m c t) (X1 m c t) (X2 m c t) (X3 m c t) d0) (stI (grid0.coords t) (X0 m c t) (X1 m c t) (X2 m c t) (X3 m c t) d1) := by
  intro y hy
  by_cases h24 : t.val % 25 = 24
  · omega
  · have := step_row m c t d0 d1 h y (by omega)
    rwa [show (t.val + 1) / 25 = t.val / 25 by omega]
theorem step_last (c : Dev nD) (t : Fin cfg0.N) (d0 : Vec F S400x1024 .f32) (d1 : Vec F S400x1024 .i32) (h : Filled m c t.val d0 d1)
    (h24 : t.val % 25 = 24) : stV (grid0.coords t) (X0 m c t) (X1 m c t) (X2 m c t) (X3 m c t) d0 = scV m c (t.val / 25) ∧ stI (grid0.coords t) (X0 m c t) (X1 m c t) (X2 m c t) (X3 m c t) d1 = scI m c (t.val / 25) := by
  have hy : ∀ y : S400x1024.Idx, (y (0 : Fin 2)).val / 16 < t.val % 25 + 1 := fun y => by
    have : (y (0 : Fin 2)).val < 400 := (y (0 : Fin 2)).isLt
    omega
  exact ⟨funext fun y => (step_row m c t d0 d1 h y (hy y)).1, funext fun y => (step_row m c t d0 d1 h y (hy y)).2⟩

/-! ## The proof data -/

/-- The arrays as the region finds them; each input's buffer at its block; the results' at the extraction of the whole scratch of the
    batch; between points the scratch filled as far as the chunks have run. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outIdx (scV m c (t.val / 25)) (scI m c (t.val / 25))
    | ⟨5, _⟩ => outVal (scV m c (t.val / 25))
  Φ t := iprop(∃ d0 : Vec F S400x1024 .f32, ∃ d1 : Vec F S400x1024 .i32, ⌜Filled m c t.val d0 d1⌝ ∗ owns (c : Thread nD τ) scr0 fullShare d0 ∗ owns (c : Thread nD τ) scr1 fullShare d1 ∗ (∃ r, prngReg c r))
  q _ := fullShare
  owed _ := 0

theorem dats_A (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outIdx (scV m c (t.val / 25)) (scI m c (t.val / 25)) := by dsimp only [dats]
theorem after5 (c : Dev nD) (t : Fin cfg0.N) : (dats m 0 c).after 5 t = outVal (scV m c (t.val / 25)) := by dsimp only [dats]
theorem before0 (c : Dev nD) (t : Fin cfg0.N) (d) : (dats m 0 c).before 0 t d = iblk m c 0 t :=
  before0_0_of m (dats m 0 c) (dats_A m c 0) (after0 m c) t d
theorem before1 (c : Dev nD) (t : Fin cfg0.N) (d) : (dats m 0 c).before 1 t d = iblk m c 1 t :=
  before0_1_of m (dats m 0 c) (dats_A m c 1) (after1 m c) t d
theorem before2 (c : Dev nD) (t : Fin cfg0.N) (d) : (dats m 0 c).before 2 t d = iblk m c 2 t :=
  before0_2_of m (dats m 0 c) (dats_A m c 2) (after2 m c) t d
theorem before3 (c : Dev nD) (t : Fin cfg0.N) (d) : (dats m 0 c).before 3 t d = iblk m c 3 t :=
  before0_3_of m (dats m 0 c) (dats_A m c 3) (after3 m c) t d

theorem idle4 (t : Fin cfg0.N) : cfg0.idle 4 (grid0.coords t) = !(k0_cond1 (grid0.coords t) == 1#1) := rfl
theorem idle5 (t : Fin cfg0.N) : cfg0.idle 5 (grid0.coords t) = !(k0_cond1 (grid0.coords t) == 1#1) := rfl

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at any point: it finds the scratch filled as far as the chunks before it, fills its own rows, and at the last chunk writes
    the extraction of the whole. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = iprop(∃ d0 : Vec F S400x1024 .f32, ∃ d1 : Vec F S400x1024 .i32, ⌜Filled m c (t.val + 1) d0 d1⌝ ∗ owns (c : Thread nD τ) scr0 fullShare d0 ∗ owns (c : Thread nD τ) scr1 fullShare d1 ∗ (∃ r, prngReg c r)) from rfl,
    show (dats m 0 c).Φ t.castSucc = iprop(∃ d0 : Vec F S400x1024 .f32, ∃ d1 : Vec F S400x1024 .i32, ⌜Filled m c t.val d0 d1⌝ ∗ owns (c : Thread nD τ) scr0 fullShare d0 ∗ owns (c : Thread nD τ) scr1 fullShare d1 ∗ (∃ r, prngReg c r)) from rfl]
  rw [show (dats m 0 c).leavesExact 0 t = owns (c : Thread nD τ) (buf0 t) fullShare ((dats m 0 c).after 0 t) from by
      unfold Dat.leavesExact; rw [show cfg0.idle 0 (cfg0.grid.coords t) = false from rfl], after0]
  rw [show (dats m 0 c).leavesExact 1 t = owns (c : Thread nD τ) (buf1 t) fullShare ((dats m 0 c).after 1 t) from by
      unfold Dat.leavesExact; rw [show cfg0.idle 1 (cfg0.grid.coords t) = false from rfl], after1]
  rw [show (dats m 0 c).leavesExact 2 t = owns (c : Thread nD τ) (buf2 t) fullShare ((dats m 0 c).after 2 t) from by
      unfold Dat.leavesExact; rw [show cfg0.idle 2 (cfg0.grid.coords t) = false from rfl], after2]
  rw [show (dats m 0 c).leavesExact 3 t = owns (c : Thread nD τ) (buf3 t) fullShare ((dats m 0 c).after 3 t) from by
      unfold Dat.leavesExact; rw [show cfg0.idle 3 (cfg0.grid.coords t) = false from rfl], after3]
  by_cases h0 : t.val % 25 = 24
  · rw [show (dats m 0 c).leavesExact 4 t = owns (c : Thread nD τ) (buf4 t) fullShare ((dats m 0 c).after 4 t) from by
      unfold Dat.leavesExact; rw [show cfg0.idle 4 (cfg0.grid.coords t) = false from by rw [show cfg0.idle 4 (cfg0.grid.coords t) = !(k0_cond1 (grid0.coords t) == 1#1) from rfl, (cond_iff t).mpr h0]; rfl], after4]
    rw [show (dats m 0 c).leavesExact 5 t = owns (c : Thread nD τ) (buf5 t) fullShare ((dats m 0 c).after 5 t) from by
      unfold Dat.leavesExact; rw [show cfg0.idle 5 (cfg0.grid.coords t) = false from by rw [show cfg0.idle 5 (cfg0.grid.coords t) = !(k0_cond1 (grid0.coords t) == 1#1) from rfl, (cond_iff t).mpr h0]; rfl], after5]
    iintro ⟨⟨%e0, %e1, %he, HS0, HS1, Hg⟩, Ho, ⟨%d0, H0⟩, ⟨%d1, H1⟩, ⟨%d2, H2⟩, ⟨%d3, H3⟩, ⟨%d4, H4⟩, ⟨%d5, H5⟩⟩
    rw [← (step_last m c t e0 e1 he h0).1, ← (step_last m c t e0 e1 he h0).2]
    iapply (run_B c (grid0.coords t) _ _ _ _ _ _ _ _ _ _ _ _ _ _ _ _ ((cond_iff t).mpr h0) (iblk m c 0 t) (iblk m c 1 t) (iblk m c 2 t) (iblk m c 3 t) e0 e1 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · iexists _, _
      isplitr; · ipureintro; exact step_filled m c t e0 e1 he
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 4 t = iprop(∃ d, owns (c : Thread nD τ) (buf4 t) fullShare ((dats m 0 c).before 4 t d)) from
      (dats m 0 c).leavesExact_idle 4 t (by rw [show cfg0.idle 4 (cfg0.grid.coords t) = !(k0_cond1 (grid0.coords t) == 1#1) from rfl]; simp only [Bool.not_eq_true', beq_eq_false_iff_ne]; exact fun h => h0 ((cond_iff t).mp h))
        (Bool.eq_false_iff.mpr fun h => h0 ((flush0_4 t).mp h))]
    rw [show (dats m 0 c).leavesExact 5 t = iprop(∃ d, owns (c : Thread nD τ) (buf5 t) fullShare ((dats m 0 c).before 5 t d)) from
      (dats m 0 c).leavesExact_idle 5 t (by rw [show cfg0.idle 5 (cfg0.grid.coords t) = !(k0_cond1 (grid0.coords t) == 1#1) from rfl]; simp only [Bool.not_eq_true', beq_eq_false_iff_ne]; exact fun h => h0 ((cond_iff t).mp h))
        (Bool.eq_false_iff.mpr fun h => h0 ((flush0_5 t).mp h))]
    iintro ⟨⟨%e0, %e1, %he, HS0, HS1, Hg⟩, Ho, ⟨%d0, H0⟩, ⟨%d1, H1⟩, ⟨%d2, H2⟩, ⟨%d3, H3⟩, ⟨%d4, H4⟩, ⟨%d5, H5⟩⟩
    iapply (run_A c (grid0.coords t) _ _ _ _ _ _ _ _ _ _ _ _ _ _ _ _ (fun h => h0 ((cond_iff t).mp h)) (iblk m c 0 t) (iblk m c 1 t) (iblk m c 2 t) (iblk m c 3 t) ((dats m 0 c).before 4 t d4) ((dats m 0 c).before 5 t d5) e0 e1 Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 Hg]
    · iexists _, _
      isplitr; · ipureintro; exact step_filled m c t e0 e1 he
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexists d4; iexact H4
    iexists d5; iexact H5

/-- The body table's row at a point is the body on that point's memrefs. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

theorem scratch_in (c : Dev nD) : (Pipeline.ΦA spec0 c : sProp 𝕄) ⊢ (dats m 0 c).Φ 0 := by
  rw [scoped_eq, show (dats m 0 c).Φ 0 = iprop(∃ d0 : Vec F S400x1024 .f32, ∃ d1 : Vec F S400x1024 .i32, ⌜Filled m c 0 d0 d1⌝ ∗ owns (c : Thread nD τ) scr0 fullShare d0 ∗ owns (c : Thread nD τ) scr1 fullShare d1 ∗ (∃ r, prngReg c r)) from rfl]
  iintro ⟨⟨⟨%d0, HS0⟩, ⟨%d1, HS1⟩⟩, Hg⟩
  iexists d0, d1
  isplitr; · ipureintro; exact fun y hy => absurd hy (Nat.not_lt_zero _)
  isplitl [HS0]; · iexact HS0
  isplitl [HS1]; · iexact HS1
  iexact Hg
theorem scratch_out (c : Dev nD) : (dats m 0 c).Φ (Fin.last cfg0.N) ⊢ (Pipeline.ΦA spec0 c : sProp 𝕄) := by
  rw [scoped_eq, show (dats m 0 c).Φ (Fin.last cfg0.N) = iprop(∃ d0 : Vec F S400x1024 .f32, ∃ d1 : Vec F S400x1024 .i32, ⌜Filled m c cfg0.N d0 d1⌝ ∗ owns (c : Thread nD τ) scr0 fullShare d0 ∗ owns (c : Thread nD τ) scr1 fullShare d1 ∗ (∃ r, prngReg c r)) from rfl]
  iintro ⟨%d0, %d1, -, HS0, HS1, Hg⟩
  isplitl [HS0 HS1]
  · isplitl [HS0]
    · iexists d0; iexact HS0
    iexists d1; iexact HS1
  iexact Hg

set_option backward.isDefEq.respectTransparency.types false in
set_option maxHeartbeats 800000 in
/-- The program runs to the end; every array of the region holds what the write-backs left and every other buffer what the lines
    after the region left; no counter is raised. -/
theorem run_quiet : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hin := scratch_in m) (hout := scratch_out m)

/-- Every argument ends as it was launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) ((θ_run defs _ _).mono (fun _ h => h.1) (run_quiet m ρ)))
    ((θ_run defs _ _).mono (fun _ h => h.2) (run_quiet m ρ))

end Cert.KernelIdeal.Knn

end
-- ==== Proof.Pick.lean ====
/-
The pure mathematics of picking the smallest entries of a column one after another, and why that is
the beginning of the column's stable sort.
-/
module

public import Idealize.ShloMosaic.Lib.SortFacts
public import Idealize.ShloMosaic.Lib.SortNet.Extract
public import Idealize.ShloMosaic.PureOps.Ideal

@[expose] public section

namespace Cert.Knn

open Idealize.ShloMosaic

/-- `a` comes before `b`: the smaller value first, the smaller place among equal values. -/
def before {n : Nat} (V : Fin n → EReal) (a b : Fin n) : Prop := V a < V b ∨ (V a = V b ∧ a < b)

noncomputable instance {n : Nat} (V : Fin n → EReal) (a b : Fin n) : Decidable (before V a b) := by
  unfold before; classical exact inferInstance

/-- A stable sort asks its relation only about a later element against an earlier one. -/
theorem stableSort_congr_later {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The places of a column in the order of the stable sort by value. -/
noncomputable def order {n : Nat} (V : Fin n → EReal) : Fin n → Fin n :=
  sortedFrom fun k k' => decide (V k < V k')

theorem order_eq {n : Nat} (V : Fin n → EReal) : order V = sortedFrom fun k k' => decide (before V k k') := by
  have hs : sortPositions n (fun k k' => decide (V k < V k')) = sortPositions n (fun k k' => decide (before V k k')) := by
    refine stableSort_congr_later _ _ _ ((List.pairwise_lt_finRange n).imp fun {a b} hab => ?_)
    refine decide_eq_decide.mpr ⟨Or.inl, fun h => h.resolve_right fun h => ?_⟩
    exact absurd h.2 (not_lt.mpr hab.le)
  funext k
  unfold order sortedFrom
  rw [List.get_of_eq hs]
  rfl

theorem order_injective {n : Nat} (V : Fin n → EReal) : Function.Injective (order V) := sortedFrom_injective _

theorem order_surjective {n : Nat} (V : Fin n → EReal) : Function.Surjective (order V) := sortedFrom_surjective _

theorem before_total {n : Nat} (V : Fin n → EReal) {a b : Fin n} (h : ¬ before V b a) (hne : a ≠ b) : before V a b := by
  unfold before at *
  rcases lt_trichotomy (V a) (V b) with h1 | h1 | h1
  · exact Or.inl h1
  · refine Or.inr ⟨h1, lt_of_le_of_ne (not_lt.mp fun h2 => h (Or.inr ⟨h1.symm, h2⟩)) hne⟩
  · exact absurd (Or.inl h1) h

theorem before_asymm {n : Nat} (V : Fin n → EReal) {a b : Fin n} (h : before V a b) : ¬ before V b a := by
  unfold before at *
  rintro (h2 | ⟨h2, h3⟩) <;> rcases h with h | ⟨h, h'⟩
  · exact lt_asymm h h2
  · exact absurd h2 (by rw [h]; exact lt_irrefl _)
  · exact absurd h (by rw [h2]; exact lt_irrefl _)
  · exact lt_asymm h' h3

theorem before_trans {n : Nat} (V : Fin n → EReal) {a b c : Fin n} (h : before V a b) (h' : before V b c) : before V a c := by
  unfold before at *
  rcases h with h | ⟨h, h1⟩ <;> rcases h' with h' | ⟨h', h2⟩
  · exact Or.inl (h.trans h')
  · exact Or.inl (h' ▸ h)
  · exact Or.inl (h ▸ h')
  · exact Or.inr ⟨h.trans h', h1.trans h2⟩

/-- Earlier in the sort is before. -/
theorem order_before {n : Nat} (V : Fin n → EReal) {i j : Fin n} (hij : i < j) : before V (order V i) (order V j) := by
  have hne : order V i ≠ order V j := fun h => absurd (order_injective V h) (ne_of_lt hij)
  refine before_total V ?_ hne
  rw [order_eq]
  have := sortedFrom_noInversion (fun k k' => decide (before V k k')) (fun k k' => decide (before V k k'))
    (fun a b h => decide_eq_false (before_asymm V (of_decide_eq_true h))) (fun a b h => h)
    (fun a b c h h' => decide_eq_false fun hac => by
      have h := of_decide_eq_false h
      have h' := of_decide_eq_false h'
      by_cases hab : a = b
      · subst hab; exact h' hac
      by_cases hbc : b = c
      · subst hbc; exact h hac
      exact before_asymm V hac (before_trans V (before_total V h' (Ne.symm hbc)) (before_total V h (Ne.symm hab))))
    i j hij
  exact of_decide_eq_false this

/-- The column after `t` picks: the first `t` places of the sort are at infinity. -/
noncomputable def left {n : Nat} (V : Fin n → EReal) (t : Nat) : Fin n → EReal :=
  fun p => if ∃ j : Fin n, j.val < t ∧ order V j = p then ⊤ else V p

theorem left_zero {n : Nat} (V : Fin n → EReal) : left V 0 = V := by
  funext p
  unfold left
  rw [if_neg (by simp)]

theorem left_order {n : Nat} (V : Fin n → EReal) (t j : Fin n) (h : t ≤ j) : left V t.val (order V j) = V (order V j) := by
  unfold left
  rw [if_neg]
  rintro ⟨i, hi, he⟩
  have := order_injective V he
  subst this
  exact absurd h (not_le.mpr hi)

theorem left_succ {n : Nat} (V : Fin n → EReal) (t : Fin n) (p : Fin n) :
    left V (t.val + 1) p = if p = order V t then ⊤ else left V t.val p := by
  unfold left
  by_cases h : p = order V t
  · rw [if_pos h, if_pos ⟨t, Nat.lt_succ_self _, h.symm⟩]
  · rw [if_neg h]
    refine if_congr ⟨?_, ?_⟩ rfl rfl
    · rintro ⟨j, hj, he⟩
      refine ⟨j, lt_of_le_of_ne (Nat.lt_succ_iff.mp hj) fun hjt => h ?_, he⟩
      rw [← he, Fin.ext hjt]
    · rintro ⟨j, hj, he⟩
      exact ⟨j, Nat.lt_succ_of_lt hj, he⟩

/-- The pick of step `t` is the least of what is left, and the first place holding it. -/
theorem left_least {n : Nat} (V : Fin n → EReal) (t : Fin n) (hfin : V (order V t) < ⊤) (p : Fin n) :
    left V t.val (order V t) ≤ left V t.val p ∧ (left V t.val p = left V t.val (order V t) → order V t ≤ p) := by
  rw [left_order V t t le_rfl]
  obtain ⟨j, rfl⟩ := order_surjective V p
  by_cases hj : j < t
  · have : left V t.val (order V j) = ⊤ := by unfold left; rw [if_pos ⟨j, hj, rfl⟩]
    rw [this]
    exact ⟨le_top, fun h => absurd hfin (by rw [← h]; exact lt_irrefl _)⟩
  · have hj := not_lt.mp hj
    rw [left_order V t j hj]
    rcases eq_or_lt_of_le hj with h | h
    · subst h; exact ⟨le_rfl, fun _ => le_rfl⟩
    · rcases order_before V h with h1 | ⟨h1, h2⟩
      · exact ⟨h1.le, fun he => absurd h1 (by rw [he]; exact lt_irrefl _)⟩
      · exact ⟨h1.le, fun _ => h2.le⟩

/-- Where the first `m` entries of a column are finite, so are the first `m` of its sort. -/
theorem order_fin {n : Nat} (V : Fin n → EReal) (m : Nat) (hm : m ≤ n) (hfin : ∀ p : Fin n, p.val < m → V p < ⊤) (t : Fin n)
    (ht : t.val < m) : V (order V t) < ⊤ := by
  by_contra h
  have hT : V (order V t) = ⊤ := not_lt_top_iff.mp h
  have hall : ∀ j : Fin n, t ≤ j → V (order V j) = ⊤ := by
    intro j hj
    rcases eq_or_lt_of_le hj with h | h
    · rw [← h, hT]
    · rcases order_before V h with h1 | ⟨h1, -⟩
      · exact absurd (hT ▸ h1) not_top_lt
      · rw [← h1, hT]
  choose f hf using order_surjective V
  have hlt : ∀ p : Fin m, (f ⟨p.val, p.isLt.trans_le hm⟩).val < t.val := by
    intro p
    by_contra hc
    have := hall (f ⟨p.val, p.isLt.trans_le hm⟩) (not_lt.mp hc)
    rw [hf] at this
    exact absurd (hfin ⟨p.val, p.isLt.trans_le hm⟩ p.isLt) (by rw [this]; exact lt_irrefl _)
  have hinj : Function.Injective fun p : Fin m => (⟨(f ⟨p.val, p.isLt.trans_le hm⟩).val, hlt p⟩ : Fin t.val) := by
    intro a b hab
    have h1 : f ⟨a.val, a.isLt.trans_le hm⟩ = f ⟨b.val, b.isLt.trans_le hm⟩ := Fin.ext (Fin.mk.inj hab)
    have h2 := congrArg (order V) h1
    rw [hf, hf] at h2
    exact Fin.ext (Fin.mk.inj h2)
  have := Fintype.card_le_of_injective _ hinj
  simp only [Fintype.card_fin] at this
  omega

/-- A fold of signed minima is at most each word and is the start or one of them. -/
theorem fold_minsi_spec {w : Nat} {ι : Type} [DecidableEq ι] (g : ι → BitVec w) (s : Finset ι) (init : BitVec w) :
    (∀ i ∈ s, (s.fold IntOp.minsi init g).toInt ≤ (g i).toInt) ∧
      (s.fold IntOp.minsi init g = init ∨ ∃ i ∈ s, s.fold IntOp.minsi init g = g i) := by
  induction s using Finset.induction_on with
  | empty => exact ⟨fun i hi => absurd hi (Finset.notMem_empty i), Or.inl (by rw [Finset.fold_empty])⟩
  | insert a s has ih =>
    rw [Finset.fold_insert has]
    have hmin := SortNet.toInt_minsi (g a) (s.fold IntOp.minsi init g)
    refine ⟨fun i hi => ?_, ?_⟩
    · rw [hmin]
      rcases Finset.mem_insert.mp hi with rfl | hi
      · exact min_le_left _ _
      · exact (min_le_right _ _).trans (ih.1 i hi)
    · have hor : IntOp.minsi (g a) (s.fold IntOp.minsi init g) = g a
          ∨ IntOp.minsi (g a) (s.fold IntOp.minsi init g) = s.fold IntOp.minsi init g := by
        unfold IntOp.minsi; split <;> simp
      rcases hor with h | h
      · exact Or.inr ⟨a, Finset.mem_insert_self a s, h⟩
      · rw [h]
        rcases ih.2 with h2 | ⟨i, hi, h2⟩
        · exact Or.inl h2
        · exact Or.inr ⟨i, Finset.mem_insert_of_mem hi, h2⟩

end Cert.Knn

end
-- ==== Proof.Rounds.lean ====
/-
The sixteen rounds that pick a column's smallest bins. The printed rounds differ only in where a value
is named; each is one uniform round.
-/
module

public import proofs.«01_k».proof.Proof.Launch
public import proofs.«01_k».proof.Proof.Pick

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The places holding the column's minimum, and 400 elsewhere. -/
def cand (u : FVec F S400x1024 .f32) : IVec S400x1024 32 :=
  select (cmpf .oeq u (broadcastTo S400x1024 (k0_pay5 u) broadcasts_S1x1024_S400x1024)) pos (broadcast S400x1024 400#32)

/-- Where a column holds its minimum. -/
def eqm (u : FVec F S400x1024 .f32) : IVec S400x1024 1 :=
  cmpf .oeq u (broadcastTo S400x1024 (k0_pay5 u) broadcasts_S1x1024_S400x1024)

theorem p9 (u : FVec F S400x1024 .f32) : k0_pay9 u = k0_pay5 (k0_pay8 u) := rfl
theorem p10 (u : FVec F S400x1024 .f32) : k0_pay10 u = k0_pay6 (k0_pay8 u) := rfl
theorem p11 (u : FVec F S400x1024 .f32) (w : IVec S400x1024 32) : k0_pay11 u w = k0_pay7 (k0_pay8 u) w := rfl
theorem p12 (u : FVec F S400x1024 .f32) : k0_pay12 u = k0_pay8 (k0_pay8 u) := rfl
theorem p13 (u : FVec F S400x1024 .f32) : k0_pay13 u = k0_pay5 (k0_pay8 (k0_pay8 u)) := rfl
theorem p14 (u : FVec F S400x1024 .f32) : k0_pay14 u = cand (k0_pay8 (k0_pay8 u)) := rfl
theorem p15 (u : FVec F S400x1024 .f32) : k0_pay15 pos (cand u) = k0_pay6 u := rfl
theorem p16 (u : FVec F S400x1024 .f32) (w : IVec S400x1024 32) : k0_pay16 (F := F) w pos (cand u) = k0_pay7 u w := rfl
theorem p17 (u : FVec F S400x1024 .f32) : k0_pay17 pos u (cand u) = k0_pay8 u := rfl
theorem p18 (u : FVec F S400x1024 .f32) : k0_pay18 pos u (cand u) = k0_pay5 (k0_pay8 u) := rfl
theorem p19 (u : FVec F S400x1024 .f32) : k0_pay19 pos u (cand u) = k0_pay6 (k0_pay8 u) := rfl
theorem p20 (u : FVec F S400x1024 .f32) (w : IVec S400x1024 32) : k0_pay20 w pos u (cand u) = k0_pay7 (k0_pay8 u) w := rfl
theorem p21 (u : FVec F S400x1024 .f32) : k0_pay21 pos u (cand u) = k0_pay8 (k0_pay8 u) := rfl
theorem p22 (u : FVec F S400x1024 .f32) : k0_pay22 pos u (cand u) = k0_pay5 (k0_pay8 (k0_pay8 u)) := rfl
theorem p23 (u : FVec F S400x1024 .f32) : k0_pay23 pos u (cand u) = k0_pay6 (k0_pay8 (k0_pay8 u)) := rfl
theorem p24 (u : FVec F S400x1024 .f32) (w : IVec S400x1024 32) : k0_pay24 w pos u (cand u) = k0_pay7 (k0_pay8 (k0_pay8 u)) w := rfl
theorem p25 (u : FVec F S400x1024 .f32) : k0_pay25 pos u (cand u) = k0_pay8 (k0_pay8 (k0_pay8 u)) := rfl
theorem p26 (u : FVec F S400x1024 .f32) : k0_pay26 pos u (cand u) = k0_pay5 (k0_pay8 (k0_pay8 (k0_pay8 u))) := rfl
theorem p27 (u : FVec F S400x1024 .f32) : k0_pay27 pos u (k0_pay5 u) = k0_pay6 u := rfl
theorem p28 (u : FVec F S400x1024 .f32) (w : IVec S400x1024 32) : k0_pay28 w pos u (k0_pay5 u) = k0_pay7 u w := rfl
theorem p29 (u : FVec F S400x1024 .f32) : k0_pay29 pos u (k0_pay5 u) = k0_pay8 u := rfl
theorem p30 (u : FVec F S400x1024 .f32) : k0_pay30 pos u (k0_pay5 u) = k0_pay5 (k0_pay8 u) := rfl
theorem p31 (u : FVec F S400x1024 .f32) : k0_pay31 pos u (k0_pay5 u) = k0_pay6 (k0_pay8 u) := rfl
theorem p32 (u : FVec F S400x1024 .f32) (w : IVec S400x1024 32) : k0_pay32 w pos u (k0_pay5 u) = k0_pay7 (k0_pay8 u) w := rfl
theorem p33 (u : FVec F S400x1024 .f32) : k0_pay33 pos u (k0_pay5 u) = k0_pay8 (k0_pay8 u) := rfl
theorem p34 (u : FVec F S400x1024 .f32) : k0_pay34 pos u (k0_pay5 u) = k0_pay5 (k0_pay8 (k0_pay8 u)) := rfl
theorem p35 (u : FVec F S400x1024 .f32) : k0_pay35 pos u (k0_pay5 u) = k0_pay6 (k0_pay8 (k0_pay8 u)) := rfl
theorem p36 (u : FVec F S400x1024 .f32) (w : IVec S400x1024 32) : k0_pay36 w pos u (k0_pay5 u) = k0_pay7 (k0_pay8 (k0_pay8 u)) w := rfl
theorem p37 (u : FVec F S400x1024 .f32) : k0_pay37 u (k0_pay6 u) = k0_pay8 u := rfl
theorem p38 (u : FVec F S400x1024 .f32) : k0_pay38 u (k0_pay6 u) = k0_pay5 (k0_pay8 u) := rfl
theorem p39 (u : FVec F S400x1024 .f32) : k0_pay39 pos u (k0_pay6 u) = k0_pay6 (k0_pay8 u) := rfl
theorem p40 (u : FVec F S400x1024 .f32) (w : IVec S400x1024 32) : k0_pay40 w pos u (k0_pay6 u) = k0_pay7 (k0_pay8 u) w := rfl
theorem p41 (u : FVec F S400x1024 .f32) : k0_pay41 pos u (k0_pay6 u) = k0_pay8 (k0_pay8 u) := rfl
theorem p42 (u : FVec F S400x1024 .f32) : k0_pay42 pos u (k0_pay6 u) = k0_pay5 (k0_pay8 (k0_pay8 u)) := rfl
theorem p43 (u : FVec F S400x1024 .f32) : k0_pay43 pos u (k0_pay6 u) = k0_pay6 (k0_pay8 (k0_pay8 u)) := rfl
theorem p44 (u : FVec F S400x1024 .f32) (w : IVec S400x1024 32) : k0_pay44 w pos u (k0_pay6 u) = k0_pay7 (k0_pay8 (k0_pay8 u)) w := rfl
theorem p45 (u : FVec F S400x1024 .f32) : k0_pay45 pos u (k0_pay6 u) = k0_pay8 (k0_pay8 (k0_pay8 u)) := rfl
theorem p46 (u : FVec F S400x1024 .f32) : k0_pay46 pos u (k0_pay6 u) = k0_pay5 (k0_pay8 (k0_pay8 (k0_pay8 u))) := rfl
theorem p47 (u : FVec F S400x1024 .f32) : k0_pay47 pos u (k0_pay6 u) = k0_pay6 (k0_pay8 (k0_pay8 (k0_pay8 u))) := rfl
theorem p48 (u : FVec F S400x1024 .f32) (w : IVec S400x1024 32) : k0_pay48 (F := F) w (k0_pay6 u) = k0_pay7 u w := rfl
theorem p49 (u : FVec F S400x1024 .f32) : k0_pay49 u (k0_pay6 u) = k0_pay8 u := rfl
theorem p50 (u : FVec F S400x1024 .f32) : k0_pay50 u (k0_pay6 u) = k0_pay5 (k0_pay8 u) := rfl
theorem p51 (u : FVec F S400x1024 .f32) : k0_pay51 pos u (k0_pay6 u) = k0_pay6 (k0_pay8 u) := rfl
theorem p52 (u : FVec F S400x1024 .f32) (w : IVec S400x1024 32) : k0_pay52 w pos u (k0_pay6 u) = k0_pay7 (k0_pay8 u) w := rfl
theorem p53 (u : FVec F S400x1024 .f32) : k0_pay53 pos u (k0_pay6 u) = k0_pay8 (k0_pay8 u) := rfl
theorem p54 (u : FVec F S400x1024 .f32) : k0_pay54 pos u (k0_pay6 u) = k0_pay5 (k0_pay8 (k0_pay8 u)) := rfl
theorem p55 (u : FVec F S400x1024 .f32) : k0_pay55 pos u (k0_pay6 u) = k0_pay6 (k0_pay8 (k0_pay8 u)) := rfl
theorem p56 (u : FVec F S400x1024 .f32) (w : IVec S400x1024 32) : k0_pay56 w pos u (k0_pay6 u) = k0_pay7 (k0_pay8 (k0_pay8 u)) w := rfl
theorem p57 (u : FVec F S400x1024 .f32) : k0_pay57 pos u (k0_pay6 u) = k0_pay8 (k0_pay8 (k0_pay8 u)) := rfl
theorem p58 (u : FVec F S400x1024 .f32) : k0_pay58 pos u (k0_pay6 u) = k0_pay5 (k0_pay8 (k0_pay8 (k0_pay8 u))) := rfl
theorem p59 (u : FVec F S400x1024 .f32) : k0_pay59 pos u (k0_pay6 u) = eqm (k0_pay8 (k0_pay8 (k0_pay8 u))) := rfl
theorem p61 (u : FVec F S400x1024 .f32) : k0_pay61 pos (eqm u) k0_pay60 = k0_pay6 u := rfl
theorem p62 (u : FVec F S400x1024 .f32) : k0_pay62 pos u (eqm u) k0_pay60 = k0_pay8 u := rfl
theorem p63 (u : FVec F S400x1024 .f32) : k0_pay63 pos u (eqm u) k0_pay60 = k0_pay5 (k0_pay8 u) := rfl
theorem p64 (u : FVec F S400x1024 .f32) : k0_pay64 pos u (eqm u) k0_pay60 = k0_pay6 (k0_pay8 u) := rfl
theorem p65 (u : FVec F S400x1024 .f32) : k0_pay65 pos u (eqm u) k0_pay60 = k0_pay8 (k0_pay8 u) := rfl
theorem p66 (u : FVec F S400x1024 .f32) : k0_pay66 pos u (eqm u) k0_pay60 = k0_pay5 (k0_pay8 (k0_pay8 u)) := rfl

/-- What is left after `n` rounds. -/
def rest (v : FVec F S400x1024 .f32) : ℕ → FVec F S400x1024 .f32
  | 0 => v
  | n + 1 => k0_pay8 (rest v n)

theorem u2_eq (v : FVec F S400x1024 .f32) : u2 v = rest v 2 := p12 v
theorem c2_eq (v : FVec F S400x1024 .f32) : c2 v = cand (rest v 2) := p14 v
theorem u5_eq (v : FVec F S400x1024 .f32) : u5 v = rest v 5 := by
  unfold u5; rw [u2_eq, c2_eq, p25]; rfl
theorem m5_eq (v : FVec F S400x1024 .f32) : m5 v = k0_pay5 (rest v 5) := by
  unfold m5; rw [u2_eq, c2_eq, p26]; rfl
theorem u7_eq (v : FVec F S400x1024 .f32) : u7 v = rest v 7 := by
  unfold u7; rw [u5_eq, m5_eq, p33]; rfl
theorem h7_eq (v : FVec F S400x1024 .f32) : h7 v = k0_pay6 (rest v 7) := by
  unfold h7; rw [u5_eq, m5_eq, p35]; rfl
theorem u10_eq (v : FVec F S400x1024 .f32) : u10 v = rest v 10 := by
  unfold u10; rw [u7_eq, h7_eq, p45]; rfl
theorem h10_eq (v : FVec F S400x1024 .f32) : h10 v = k0_pay6 (rest v 10) := by
  unfold h10; rw [u7_eq, h7_eq, p47]; rfl
theorem u13_eq (v : FVec F S400x1024 .f32) : u13 v = rest v 13 := by
  unfold u13; rw [u10_eq, h10_eq, p57]; rfl
theorem e13_eq (v : FVec F S400x1024 .f32) : e13 v = eqm (rest v 13) := by
  unfold e13; rw [u10_eq, h10_eq, p59]; rfl

/-- The values' stack, one uniform round a row. -/
theorem outVal_eq (v : FVec F S400x1024 .f32) :
    outVal v = k0_pay4 (k0_pay5 (rest v 0)) (k0_pay5 (rest v 1)) (k0_pay5 (rest v 2)) (k0_pay5 (rest v 3)) (k0_pay5 (rest v 4)) (k0_pay5 (rest v 5)) (k0_pay5 (rest v 6)) (k0_pay5 (rest v 7)) (k0_pay5 (rest v 8)) (k0_pay5 (rest v 9)) (k0_pay5 (rest v 10)) (k0_pay5 (rest v 11)) (k0_pay5 (rest v 12)) (k0_pay5 (rest v 13)) (k0_pay5 (rest v 14)) (k0_pay5 (rest v 15)) := by
  unfold outVal
  rw [u2_eq, c2_eq, u5_eq, m5_eq, u7_eq, h7_eq, u10_eq, h10_eq, u13_eq, e13_eq, p9, p13, p18, p22, p30, p34, p38, p42, p46,
    p50, p54, p58, p63, p66]
  rfl

/-- The winners' stack, one uniform round a row. -/
def idxRows (v : FVec F S400x1024 .f32) (w : IVec S400x1024 32) : IVec S16x1024 32 :=
  concatenate S16x1024 0 [⟨S1x1024, k0_pay7 (rest v 0) w⟩, ⟨S1x1024, k0_pay7 (rest v 1) w⟩, ⟨S1x1024, k0_pay7 (rest v 2) w⟩, ⟨S1x1024, k0_pay7 (rest v 3) w⟩, ⟨S1x1024, k0_pay7 (rest v 4) w⟩, ⟨S1x1024, k0_pay7 (rest v 5) w⟩, ⟨S1x1024, k0_pay7 (rest v 6) w⟩, ⟨S1x1024, k0_pay7 (rest v 7) w⟩, ⟨S1x1024, k0_pay7 (rest v 8) w⟩, ⟨S1x1024, k0_pay7 (rest v 9) w⟩, ⟨S1x1024, k0_pay7 (rest v 10) w⟩, ⟨S1x1024, k0_pay7 (rest v 11) w⟩, ⟨S1x1024, k0_pay7 (rest v 12) w⟩, ⟨S1x1024, k0_pay7 (rest v 13) w⟩, ⟨S1x1024, k0_pay7 (rest v 14) w⟩, ⟨S1x1024, k0_pay7 (rest v 15) w⟩]
    concatenates_S1x1024_S1x1024_S1x1024_S1x1024_S1x1024_S1x1024_S1x1024_S1x1024_S1x1024_S1x1024_S1x1024_S1x1024_S1x1024_S1x1024_S1x1024_S1x1024_S16x1024_d0

theorem p67 (v : FVec F S400x1024 .f32) (w : IVec S400x1024 32) :
    k0_pay67 w pos (k0_pay7 (rest v 0) w) (k0_pay7 (rest v 1) w) (k0_pay7 (rest v 2) w) (k0_pay7 (rest v 3) w) (k0_pay7 (rest v 4) w) (k0_pay7 (rest v 5) w) (k0_pay7 (rest v 6) w) (k0_pay7 (rest v 7) w) (k0_pay7 (rest v 8) w) (k0_pay7 (rest v 9) w) (k0_pay7 (rest v 10) w) (k0_pay7 (rest v 11) w) (k0_pay7 (rest v 12) w)
      (rest v 13) (eqm (rest v 13)) k0_pay60 = idxRows v w := by
  unfold k0_pay67
  rw [p61, p64, p65, p66]
  rfl

theorem outIdx_eq (v : FVec F S400x1024 .f32) (w : IVec S400x1024 32) : outIdx v w = k0_pay3 (idxRows v w) := by
  unfold outIdx
  rw [u2_eq, c2_eq, u5_eq, m5_eq, u7_eq, h7_eq, u10_eq, h10_eq, u13_eq, e13_eq, p11, p16, p20, p24, p28, p32, p36, p40, p44, p48,
    p52, p56]
  exact congrArg k0_pay3 (p67 v w)

end Cert.KernelIdeal.Knn

end
-- ==== Proof.Column.lean ====
/-
The sixteen rounds over the extended reals: row `r` of the stacks is the `r`-th entry of the column's
stable sort, and the word beside it.
-/
module

public import proofs.«01_k».proof.Proof.Rounds
public import Idealize.ShloMosaic.Lib.Pointwise
public import Idealize.ShloMosaic.Lib.Pipeline.ValueKit
public import Idealize.ShloMosaic.Lib.Pipeline.ValueKit.Tiles

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Knn

variable {F : FTy → Type} [FloatOps F]

variable (u : FVec Ideal S400x1024 .f32) (w : IVec S400x1024 32) (q : Fin 1024) (p₀ : Fin 400)

/-- `p₀` is the first place of column `q` that holds the column's minimum. -/
def Least : Prop := ∀ p : Fin 400, u (ix2 p₀ q) ≤ u (ix2 p q) ∧ (u (ix2 p q) = u (ix2 p₀ q) → p₀ ≤ p)

theorem inf_eq : (FloatOps.ofBits .f32 0x7F800000#32 : Ideal .f32) = (⊤ : EReal) := by
  show Ideal.ofBits .f32 0x7F800000#32 = ⊤
  simp [Ideal.ofBits, Ideal.ieee]

theorem mem_col (h : Shape.Reduces S400x1024 [0] S1024) (i : S400x1024.Idx) :
    h.drop i = ix1 q ↔ ∃ p : Fin 400, i = ix2 p q := by
  constructor
  · intro hi
    have h1 : ((h.drop i) 0 : Nat) = i 1 := h.drop_apply_val_of_eq i 0 1
    rw [hi] at h1
    refine ⟨i 0, ?_⟩
    funext a
    match a with
    | ⟨0, _⟩ => rfl
    | ⟨1, _⟩ => exact Fin.ext h1.symm
  · rintro ⟨p, hi⟩
    funext a
    match a with
    | ⟨0, _⟩ =>
      refine Fin.ext ((h.drop_apply_val_of_eq i 0 1).trans ?_)
      rw [hi]; rfl

/-- A column's reduction, laid as one row, at `q`. -/
theorem row_read {α : Type} (v : S1024.Idx → α) : shapeCast S1x1024 v shapeCasts_S1024_S1x1024 (ix2 0 q) = v (ix1 q) := by
  simp only [pointwise]

theorem colMin_read (h : Least u q p₀) : k0_pay5 (F := Ideal) u (ix2 0 q) = u (ix2 p₀ q) := by
  unfold k0_pay5
  rw [row_read]
  haveI : Std.Commutative (FloatOps.minimumf (F := Ideal) (φ := .f32)) := ⟨fun a b => min_comm (α := EReal) a b⟩
  haveI : Std.Associative (FloatOps.minimumf (F := Ideal) (φ := .f32)) := ⟨fun a b c => min_assoc (α := EReal) a b c⟩
  refine (multiReduction_minimumf_eq_fold _ _ _ _ _ _).trans ?_
  refine le_antisymm (α := EReal) ?_ ?_
  · refine (Finset.fold_min_le (β := EReal) _).mpr (Or.inr ⟨ix2 p₀ q, ?_, le_rfl⟩)
    exact Finset.mem_filter.mpr ⟨Finset.mem_univ _, (mem_col q _ _).mpr ⟨_, rfl⟩⟩
  · refine (Finset.le_fold_min (β := EReal) _).mpr ⟨?_, fun i hi => ?_⟩
    · rw [inf_eq]; exact le_top
    · obtain ⟨p, rfl⟩ := (mem_col q _ _).mp (Finset.mem_filter.mp hi).2
      exact (h _).1

theorem pos_read (p : Fin 400) : pos (ix2 p q) = BitVec.ofNat 32 p.val := by
  simp [pos, iota, ix2]

theorem bcast_read {α : Type} (v : S1x1024.Idx → α) (p : Fin 400) :
    broadcastTo S400x1024 v broadcasts_S1x1024_S400x1024 (ix2 p q) = v (ix2 0 q) := by
  simp only [pointwise]
  rfl

theorem cand_read (h : Least u q p₀) (p : Fin 400) :
    cand u (ix2 p q) = if u (ix2 p q) = u (ix2 p₀ q) then BitVec.ofNat 32 p.val else 400#32 := by
  show Scalar.select (FloatOps.cmpf (F := Ideal) .oeq (u (ix2 p q)) (broadcastTo S400x1024 (k0_pay5 (F := Ideal) u)
    broadcasts_S1x1024_S400x1024 (ix2 p q))) (pos (ix2 p q)) 400#32 = _
  rw [bcast_read, colMin_read u q p₀ h, pos_read]
  show (if BitVec.ofBool (decide (u (ix2 p q) = u (ix2 p₀ q))) = 1 then _ else _) = _
  by_cases hc : u (ix2 p q) = u (ix2 p₀ q)
  · rw [if_pos hc, if_pos (by rw [decide_eq_true hc]; rfl)]
  · rw [if_neg hc, if_neg (by rw [decide_eq_false hc]; decide)]

theorem toInt_place (p : Fin 400) : (BitVec.ofNat 32 p.val).toInt = p.val := by
  have := p.isLt
  rw [BitVec.toInt_ofNat']
  simp [Int.bmod]
  omega

theorem first_read (h : Least u q p₀) :
    multiReductionI .minsi [0] S1024 (cand u) 2147483647#32 reduces_S400x1024_S1024 rfl (ix1 q) = BitVec.ofNat 32 p₀.val := by
  classical
  refine (multiReductionI_eq_fold _ _ _ _ _ _).trans ?_
  obtain ⟨h1, h2⟩ := fold_minsi_spec (cand u) (Finset.univ.filter fun i => reduces_S400x1024_S1024.drop i = ix1 q) 2147483647#32
  have hm : ix2 p₀ q ∈ (Finset.univ.filter fun i : S400x1024.Idx => reduces_S400x1024_S1024.drop i = ix1 q) :=
    Finset.mem_filter.mpr ⟨Finset.mem_univ _, (mem_col q _ _).mpr ⟨_, rfl⟩⟩
  have h3 := h1 _ hm
  rw [cand_read u q p₀ h, if_pos rfl, toInt_place] at h3
  have hp := p₀.isLt
  change Finset.fold IntOp.minsi _ _ _ = _
  change (Finset.fold IntOp.minsi _ _ _).toInt ≤ _ at h3
  rcases h2 with h2 | ⟨i, hi, h2⟩
  · rw [h2] at h3
    have : (2147483647#32).toInt = 2147483647 := by decide
    omega
  · obtain ⟨p, rfl⟩ := (mem_col q _ _).mp (Finset.mem_filter.mp hi).2
    rw [cand_read u q p₀ h] at h2
    split at h2
    · next hc =>
      have h4 : p₀.val ≤ p.val := (h _).2 hc
      rw [h2, toInt_place] at h3
      rw [h2, show p.val = p₀.val by omega]
    · rw [h2] at h3
      have : (400#32).toInt = 400 := by decide
      omega

theorem hot_read (h : Least u q p₀) (p : Fin 400) : k0_pay6 (F := Ideal) u (ix2 p q) = BitVec.ofBool (decide (p = p₀)) := by
  show IntOp.cmpi .eq (pos (ix2 p q)) (broadcastTo S400x1024 (shapeCast S1x1024
    (multiReductionI .minsi [0] S1024 (cand u) 2147483647#32 reduces_S400x1024_S1024 rfl) shapeCasts_S1024_S1x1024)
    broadcasts_S1x1024_S400x1024 (ix2 p q)) = _
  rw [bcast_read, row_read, first_read u q p₀ h, pos_read]
  show BitVec.ofBool (BitVec.ofNat 32 p.val == BitVec.ofNat 32 p₀.val) = _
  congr 1
  by_cases hp : p = p₀
  · subst hp; simp
  · rw [decide_eq_false hp]
    refine beq_eq_false_iff_ne.mpr fun he => hp (Fin.ext ?_)
    have := congrArg BitVec.toInt he
    rw [toInt_place, toInt_place] at this
    exact_mod_cast this

theorem sel_hot {α : Type} (b : Bool) (x y : α) : Scalar.select (BitVec.ofBool b) x y = if b then x else y := by
  unfold Scalar.select
  cases b <;> simp

theorem drop_read (h : Least u q p₀) (p : Fin 400) :
    k0_pay8 (F := Ideal) u (ix2 p q) = if p = p₀ then (⊤ : EReal) else u (ix2 p q) := by
  show Scalar.select (k0_pay6 (F := Ideal) u (ix2 p q)) (FloatOps.ofBits .f32 0x7F800000#32 : Ideal .f32) (u (ix2 p q)) = _
  rw [hot_read u q p₀ h, sel_hot, inf_eq]
  simp only [decide_eq_true_eq]

theorem picked_read (h : Least u q p₀) (hw : -1 ≤ (w (ix2 p₀ q)).toInt) : k0_pay7 (F := Ideal) u w (ix2 0 q) = w (ix2 p₀ q) := by
  classical
  show shapeCast S1x1024 (multiReductionI .maxsi [0] S1024 (select (k0_pay6 (F := Ideal) u) w (broadcast S400x1024 4294967295#32))
    2147483648#32 reduces_S400x1024_S1024 rfl) shapeCasts_S1024_S1x1024 (ix2 0 q) = _
  rw [row_read]
  refine (multiReductionI_eq_fold _ _ _ _ _ _).trans ?_
  have hs : ∀ p : Fin 400, select (k0_pay6 (F := Ideal) u) w (broadcast S400x1024 4294967295#32) (ix2 p q)
      = if p = p₀ then w (ix2 p q) else 4294967295#32 := by
    intro p
    show Scalar.select (k0_pay6 (F := Ideal) u (ix2 p q)) (w (ix2 p q)) 4294967295#32 = _
    rw [hot_read u q p₀ h, sel_hot]
    simp only [decide_eq_true_eq]
  obtain ⟨-, h1, h2⟩ := SortNet.fold_maxsi_spec (select (k0_pay6 (F := Ideal) u) w (broadcast S400x1024 4294967295#32))
    (Finset.univ.filter fun i => reduces_S400x1024_S1024.drop i = ix1 q) 2147483648#32
  have hm : ix2 p₀ q ∈ (Finset.univ.filter fun i : S400x1024.Idx => reduces_S400x1024_S1024.drop i = ix1 q) :=
    Finset.mem_filter.mpr ⟨Finset.mem_univ _, (mem_col q _ _).mpr ⟨_, rfl⟩⟩
  have h3 := h1 _ hm
  rw [hs, if_pos rfl] at h3
  change Finset.fold IntOp.maxsi _ _ _ = _
  change _ ≤ (Finset.fold IntOp.maxsi _ _ _).toInt at h3
  have e1 : (4294967295#32).toInt = -1 := by decide
  rcases h2 with h2 | ⟨i, hi, h2⟩
  · rw [h2] at h3
    have : (2147483648#32).toInt = -2147483648 := by decide
    omega
  · obtain ⟨p, rfl⟩ := (mem_col q _ _).mp (Finset.mem_filter.mp hi).2
    rw [hs] at h2
    split at h2
    · next hc => rw [h2, hc]
    · rw [h2] at h3 ⊢
      exact BitVec.eq_of_toInt_eq (by omega)

/-- Column `q` of a block. -/
def col (v : FVec Ideal S400x1024 .f32) : Fin 400 → EReal := fun p => v (ix2 p q)

variable (v : FVec Ideal S400x1024 .f32) (hfin : ∀ p : Fin 400, p.val < 16 → col q v p < ⊤)

include hfin in
theorem least_rest (t : Fin 400) (ht : t.val < 16) (hr : col q (rest v t.val) = left (col q v) t.val) :
    Least (rest v t.val) q (order (col q v) t) := by
  intro p
  have := left_least (col q v) t (order_fin (col q v) 16 (by omega) hfin t ht) p
  rw [← hr] at this
  exact this

include hfin in
theorem rest_read : ∀ n : ℕ, n ≤ 16 → col q (rest v n) = left (col q v) n
  | 0, _ => (left_zero _).symm
  | n + 1, hn => by
    have ih := rest_read n (by omega)
    have hl := least_rest q v hfin ⟨n, by omega⟩ (show n < 16 by omega) ih
    funext p
    refine (drop_read (rest v n) q _ hl p).trans ?_
    rw [left_succ (col q v) ⟨n, by omega⟩ p]
    show (if _ then _ else col q (rest v n) p) = _
    rw [ih]

include hfin in
/-- Round `t`'s value. -/
theorem round_val (t : Fin 400) (ht : t.val < 16) : k0_pay5 (rest v t.val) (ix2 0 q) = v (ix2 (order (col q v) t) q) := by
  have hr := rest_read q v hfin t.val ht.le
  rw [colMin_read _ q _ (least_rest q v hfin t ht hr)]
  show col q (rest v t.val) _ = _
  rw [hr, left_order _ _ _ le_rfl]
  rfl

include hfin in
/-- Round `t`'s word. -/
theorem round_idx (t : Fin 400) (ht : t.val < 16) (hw : ∀ p : Fin 400, -1 ≤ (w (ix2 p q)).toInt) :
    k0_pay7 (rest v t.val) w (ix2 0 q) = w (ix2 (order (col q v) t) q) :=
  picked_read _ w q _ (least_rest q v hfin t ht (rest_read q v hfin t.val ht.le)) (hw _)

/-- The sort place a stack's row stands for. -/
def place (r : Fin 16) : Fin 400 := ⟨r.val, by omega⟩

theorem row_ix (i : S1x1024.Idx) (h0 : (i 0).val = 0) (h1 : (i 1).val = q.val) : i = ix2 0 q := by
  funext a
  match a with
  | ⟨0, _⟩ => exact Fin.ext h0
  | ⟨1, _⟩ => exact Fin.ext h1

/-- A stack of sixteen rows under a leading axis of one. -/
theorem stack_read {α : Type} (z : S16x1024.Idx → α) (r : Fin 16) :
    shapeCast S1x16x1024 z shapeCasts_S16x1024_S1x16x1024 (ix3 0 r q) = z (ix2 r q) := by
  simp only [pointwise]

include hfin in
theorem outVal_read (r : Fin 16) : outVal (F := Ideal) v (ix3 0 r q) = v (ix2 (order (col q v) (place r)) q) := by
  rw [outVal_eq]
  unfold k0_pay4
  refine (stack_read q _ r).trans ?_
  concat_tiles i h
  all_goals (
    refine Eq.trans ?_ (round_val q v hfin (place r) r.isLt)
    rw [show (place r).val = _ from h]
    refine congrArg _ (row_ix q i ?_ ?_) <;> assumption)

include hfin in
theorem outIdx_read (hw : ∀ p : Fin 400, -1 ≤ (w (ix2 p q)).toInt) (r : Fin 16) :
    outIdx (F := Ideal) v w (ix3 0 r q) = w (ix2 (order (col q v) (place r)) q) := by
  rw [outIdx_eq]
  unfold k0_pay3
  refine (stack_read q _ r).trans ?_
  unfold idxRows
  concat_tiles i h
  all_goals (
    refine Eq.trans ?_ (round_idx w q v hfin (place r) r.isLt hw)
    rw [show (place r).val = _ from h]
    refine congrArg _ (row_ix q i ?_ ?_) <;> assumption)

end Cert.KernelIdeal.Knn

end
-- ==== Proof.Spec.lean ====
/- The distances a search ranks, the bins it ranks them in, and the row a bin is known by. -/
module
public import proofs.«01_k».proof.Proof.Column

@[expose] public section

noncomputable section

namespace Cert.Knn

open Idealize.ShloMosaic

/-- The squared distance of a query `X` to the row `n` of `Y`; a row past the last is infinitely far. -/
def far (X : Fin 64 → EReal) (Y : Fin 100000 → Fin 64 → EReal) (n : ℕ) : EReal :=
  if h : n < 100000 then
    ((∑ k : Fin 64, X k * X k) + ∑ k : Fin 64, Y ⟨n, h⟩ k * Y ⟨n, h⟩ k)
      - Ideal.ofBits .f32 0x40000000#32 * ∑ k : Fin 64, X k * Y ⟨n, h⟩ k
  else ⊤

/-- The bin of a row: eight bins to every stretch of 2048 rows, by the row's place modulo eight. -/
def bin (n : ℕ) : ℕ := 8 * (n / 2048) + n % 8

/-- `n` is the row bin `y` is known by: the nearest, and of equally near ones the last. -/
def IsBest (f : ℕ → EReal) (y n : ℕ) : Prop :=
  n < 102400 ∧ bin n = y ∧ ∀ k < 102400, bin k = y → f n ≤ f k ∧ (f k = f n → k ≤ n)

theorem IsBest.unique {f : ℕ → EReal} {y n k : ℕ} (hn : IsBest f y n) (hk : IsBest f y k) : n = k := by
  obtain ⟨n1, n2, n3⟩ := hn
  obtain ⟨k1, k2, k3⟩ := hk
  have e : f n = f k := le_antisymm (n3 k k1 k2).1 (k3 n n1 n2).1
  exact le_antisymm ((k3 n n1 n2).2 e) ((n3 k k1 k2).2 e.symm)

open Classical in
/-- The row a bin is known by. -/
def bestRow (f : ℕ → EReal) (y : ℕ) : ℕ := if h : ∃ n, IsBest f y n then h.choose else 0

theorem IsBest.row {f : ℕ → EReal} {y n : ℕ} (h : IsBest f y n) : bestRow f y = n := by
  have hex : ∃ n, IsBest f y n := ⟨n, h⟩
  rw [bestRow, dif_pos hex]
  exact hex.choose_spec.unique h

/-- How near each bin is. -/
def nearness (f : ℕ → EReal) (y : Fin 400) : EReal := f (bestRow f y.val)

/-- The row of rank `r` in the ranking of the bins. -/
def nearRow (f : ℕ → EReal) (r : Fin 400) : ℕ := bestRow f (order (nearness f) r).val

/-- A value that is a real number. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩
theorem IsReal.mul {x y : EReal} : IsReal x → IsReal y → IsReal (x * y) := by
  rintro ⟨a, rfl⟩ ⟨b, rfl⟩
  exact ⟨a * b, (EReal.coe_mul a b).symm⟩
theorem IsReal.sub {x y : EReal} : IsReal x → IsReal y → IsReal (x - y) := by
  rintro ⟨a, rfl⟩ ⟨b, rfl⟩
  exact ⟨a - b, (EReal.coe_sub a b).symm⟩
theorem IsReal.sum {n : ℕ} {f : Fin n → EReal} (h : ∀ k, IsReal (f k)) : IsReal (∑ k, f k) :=
  Finset.sum_induction f IsReal (fun _ _ => IsReal.add) ⟨0, rfl⟩ fun k _ => h k
theorem IsReal.lt_top {x : EReal} : IsReal x → x < ⊤ := by
  rintro ⟨a, rfl⟩
  exact EReal.coe_lt_top a
theorem isReal_of_abs {x : EReal} (h : max x (-x) < ⊤) : IsReal x := by
  induction x with
  | bot => simp at h
  | top => simp at h
  | coe r => exact ⟨r, rfl⟩

theorem two_real : IsReal (Ideal.ofBits .f32 0x40000000#32) := by
  exact ⟨2, by simp [Ideal.ofBits, Ideal.ieee, -EReal.coe_mul]; norm_num⟩

theorem far_lt_top {X : Fin 64 → EReal} {Y : Fin 100000 → Fin 64 → EReal} (hX : ∀ k, IsReal (X k))
    (hY : ∀ n k, IsReal (Y n k)) (n : ℕ) (h : n < 100000) : far X Y n < ⊤ := by
  rw [far, dif_pos h]
  exact (((IsReal.sum fun k => (hX k).mul (hX k)).add (IsReal.sum fun k => (hY _ k).mul (hY _ k))).sub
    (two_real.mul (IsReal.sum fun k => (hX k).mul (hY _ k)))).lt_top

/-- Each of the first sixteen bins holds a row of the array: its best is nearer than infinity. -/
theorem best_lt_top {X : Fin 64 → EReal} {Y : Fin 100000 → Fin 64 → EReal} (hX : ∀ k, IsReal (X k))
    (hY : ∀ n k, IsReal (Y n k)) {y n : ℕ} (hy : y < 16) (hn : IsBest (far X Y) y n) : far X Y n < ⊤ := by
  have hb : bin (2048 * (y / 8) + y % 8) = y := by unfold bin; omega
  exact ((hn.2.2 _ (by omega) hb).1).trans_lt (far_lt_top hX hY _ (by omega))

theorem sq_nonneg' (x : EReal) : 0 ≤ x * x := by
  rcases le_total 0 x with h | h
  · exact mul_nonneg h h
  · have h' : 0 ≤ -x := EReal.neg_nonneg.mpr h
    have e : x * x = -x * -x := by simp
    rw [e]
    exact mul_nonneg h' h'

/-- A distance put together from its three parts, an absent row's length being infinite and its entries zero. -/
theorem far_of {X : Fin 64 → EReal} {Y : Fin 100000 → Fin 64 → EReal} {n : ℕ} {a b s : EReal}
    (ha : a = if h : n < 100000 then ∑ k : Fin 64, Y ⟨n, h⟩ k * Y ⟨n, h⟩ k else ⊤)
    (hb : b = ∑ k : Fin 64, X k * X k)
    (hs : s = ∑ k : Fin 64, (if h : n < 100000 then Y ⟨n, h⟩ k else 0) * X k) :
    a + b - Ideal.ofBits .f32 0x40000000#32 * s = far X Y n := by
  unfold far
  by_cases h : n < 100000
  · simp only [dif_pos h] at ha hs
    rw [dif_pos h, ha, hb, hs, add_comm]
    congr 2
    exact Finset.sum_congr rfl fun k _ => mul_comm _ _
  · simp only [dif_neg h, zero_mul, Finset.sum_const_zero] at ha hs
    rw [dif_neg h, ha, hs, mul_zero]
    have h0 : 0 ≤ b := hb ▸ Finset.sum_nonneg fun k _ => sq_nonneg' _
    rw [EReal.top_add_of_ne_bot (fun hb => by rw [hb] at h0; exact absurd h0 (by decide))]
    simp

end Cert.Knn
end
-- ==== Proof.Ref.lean ====
/- The reference read at an index: every bin's nearest row, and the bins ranked. -/
module
public import proofs.«01_k».proof.Proof.Gen.ReferenceIdeal.Read
public import proofs.«01_k».proof.Proof.Spec
public import Idealize.ShloMosaic.Lib.Pointwise
public import Idealize.ShloMosaic.Lib.SortNet.Extract

@[expose] public section

set_option maxRecDepth 16384

noncomputable section

namespace Cert.ReferenceIdeal.Knn

open Idealize.ShloMosaic Idealize.ShloMosaic.TcCoe Idealize.SL.Sem Idealize.ShloMosaic.StableHlo
open Cert.ReferenceIdeal Cert.ReferenceIdeal.Gen Cert.ReferenceIdeal.Read
open Cert.Knn

variable (x0 : (⟨S2x1024x64, .f32⟩ : BufTy).Contents (Elt Ideal)) (x1 : (⟨S2x100000x64, .f32⟩ : BufTy).Contents (Elt Ideal))

theorem zero_eq : (FloatOps.ofBits .f32 0x00000000#32 : Ideal .f32) = (0 : EReal) := Ideal.ofBits_zero_f32
theorem inf_eq : (FloatOps.ofBits .f32 0x7F800000#32 : Ideal .f32) = (⊤ : EReal) := by
  show Ideal.ofBits .f32 0x7F800000#32 = ⊤
  simp [Ideal.ofBits, Ideal.ieee]

/-- The distances of query `q` of batch `b`. -/
def fars (b : Fin 2) (q : Fin 1024) : ℕ → EReal := far (fun k => x0 (ix3 b q k)) (fun n k => x1 (ix3 b n k))

theorem qsq_read (b : Fin 2) (q : Fin 1024) (n : Fin 100000) :
    val_main_v7 (F := Ideal) x0 (ix3 b q n) = ∑ k : Fin 64, x0 (ix3 b q k) * x0 (ix3 b q k) := by
  rw [val_main_v7_apply, val_main_v2_apply, val_main_v1_apply, val_main_cst_apply, zero_eq, zero_add]
  refine Finset.sum_congr rfl fun k _ => ?_
  rw [val_main_v0_apply]
  have e : idx_main_v1 (idx_main_v2 (idx_main_v7 (ix3 b q n))) k = ix3 b q k := funext fun a => match a with
    | ⟨0, _⟩ => rfl
    | ⟨1, _⟩ => rfl
    | ⟨2, _⟩ => rfl
  rw [e]
  rfl

theorem rsq_read (b : Fin 2) (q : Fin 1024) (n : Fin 100000) :
    val_main_v8 (F := Ideal) x1 (ix3 b q n) = ∑ k : Fin 64, x1 (ix3 b n k) * x1 (ix3 b n k) := by
  rw [val_main_v8_apply, val_main_v6_apply, val_main_v4_apply, val_main_cst_0_apply, zero_eq, zero_add]
  refine Finset.sum_congr rfl fun k _ => ?_
  rw [val_main_v3_apply]
  have e : idx_main_v4 (idx_main_v6 (idx_main_v8 (ix3 b q n))) k = ix3 b n k := funext fun a => match a with
    | ⟨0, _⟩ => rfl
    | ⟨1, _⟩ => rfl
    | ⟨2, _⟩ => rfl
  rw [e]
  rfl

theorem dot_read (b : Fin 2) (q : Fin 1024) (n : Fin 100000) :
    val_main_v5 (F := Ideal) x0 x1 (ix3 b q n) = ∑ k : Fin 64, x0 (ix3 b q k) * x1 (ix3 b n k) := by
  rw [val_main_v5_apply]
  refine Finset.sum_congr rfl fun k _ => ?_
  have e : lidx_main_v5 (ix3 b q n) k = ix3 b q k := funext fun a => match a with
    | ⟨0, _⟩ => rfl
    | ⟨1, _⟩ => rfl
    | ⟨2, _⟩ => rfl
  have e' : ridx_main_v5 (ix3 b q n) k = ix3 b n k := funext fun a => match a with
    | ⟨0, _⟩ => rfl
    | ⟨1, _⟩ => rfl
    | ⟨2, _⟩ => rfl
  rw [e, e']

theorem dist_read (b : Fin 2) (q : Fin 1024) (n : Fin 100000) :
    val_main_v12 (F := Ideal) x0 x1 (ix3 b q n) = fars x0 x1 b q n.val := by
  rw [fars, far, dif_pos n.isLt, val_main_v12_apply, val_main_v9_apply, val_main_v11_apply, qsq_read, rsq_read, dot_read,
    val_main_v10_apply, val_main_cst_1_apply]
  rfl

theorem pad_read (b : Fin 2) (q : Fin 1024) (n : Fin 102400) :
    val_main_v13 (F := Ideal) x0 x1 (ix3 b q n) = fars x0 x1 b q n.val := by
  unfold val_main_v13
  have hd := dist_read x0 x1 b q
  generalize val_main_v12 (F := Ideal) x0 x1 = y at hd
  by_cases h : n.val < 100000
  · simp only [pointwise]
    rw [dif_pos]
    · rw [← hd ⟨n.val, h⟩]
      simp
    · intro a
      match a with
      | 0 => exact ⟨Nat.zero_le _, Nat.mod_one _, by simpa using b.isLt⟩
      | 1 => exact ⟨Nat.zero_le _, Nat.mod_one _, by simpa using q.isLt⟩
      | 2 => exact ⟨Nat.zero_le _, Nat.mod_one _, by simpa using h⟩
  · simp only [pointwise]
    rw [dif_neg, fars, far, dif_neg h]
    · exact inf_eq
    · intro hh
      exact h (by simpa using (hh 2).2.2)

/-- The row at place `j` of bin `l` of the stretch `u`. -/
def rowAt (u : Fin 50) (j : Fin 256) (l : Fin 8) : ℕ := (u.val * 256 + j.val) * 8 + l.val

theorem binned_read (b : Fin 2) (q : Fin 1024) (u : Fin 50) (j : Fin 256) (l : Fin 8) :
    val_main_v14 (F := Ideal) x0 x1 (ix5 b q u j l) = fars x0 x1 b q (rowAt u j l) := by
  unfold val_main_v14
  refine (shapeCast_apply _ _ _ (ix3 b q ⟨rowAt u j l, by unfold rowAt; omega⟩) ?_).trans (pad_read x0 x1 b q _)
  rewrite [Shape.rowMajor_val_three, Shape.rowMajor_val_five]
  show (b.val * 1024 + q.val) * 102400 + ((u.val * 256 + j.val) * 8 + l.val)
    = (((b.val * 1024 + q.val) * 50 + u.val) * 256 + j.val) * 8 + l.val
  omega

theorem mem_bin (b : Fin 2) (q : Fin 1024) (u : Fin 50) (l : Fin 8) (i : S2x1024x50x256x8.Idx)
    (h : S2x1024x50x256x8.ReducesTo [3] S2x1024x50x8) :
    h.drop i = ix4 b q u l ↔ ∃ j : Fin 256, i = ix5 b q u j l := by
  constructor
  · intro hi
    have h0 : ((h.drop i) 0 : Nat) = i 0 := h.drop_apply_val_of_eq i 0 0
    have h1 : ((h.drop i) 1 : Nat) = i 1 := h.drop_apply_val_of_eq i 1 1
    have h2 : ((h.drop i) 2 : Nat) = i 2 := h.drop_apply_val_of_eq i 2 2
    have h3 : ((h.drop i) 3 : Nat) = i 4 := h.drop_apply_val_of_eq i 3 4
    rw [hi] at h0 h1 h2 h3
    refine ⟨i 3, ?_⟩
    funext a
    match a with
    | ⟨0, _⟩ => exact Fin.ext h0.symm
    | ⟨1, _⟩ => exact Fin.ext h1.symm
    | ⟨2, _⟩ => exact Fin.ext h2.symm
    | ⟨3, _⟩ => rfl
    | ⟨4, _⟩ => exact Fin.ext h3.symm
  · rintro ⟨j, rfl⟩
    funext a
    match a with
    | ⟨0, _⟩ => exact Fin.ext (h.drop_apply_val_of_eq _ 0 0)
    | ⟨1, _⟩ => exact Fin.ext (h.drop_apply_val_of_eq _ 1 1)
    | ⟨2, _⟩ => exact Fin.ext (h.drop_apply_val_of_eq _ 2 2)
    | ⟨3, _⟩ => exact Fin.ext (h.drop_apply_val_of_eq _ 3 4)

/-- A bin's nearest distance is one of its rows', and no row's is less. -/
theorem least_spec (b : Fin 2) (q : Fin 1024) (u : Fin 50) (l : Fin 8) :
    (∀ j, val_main_v17 (F := Ideal) x0 x1 (ix4 b q u l) ≤ fars x0 x1 b q (rowAt u j l)) ∧
      ∃ j, fars x0 x1 b q (rowAt u j l) = val_main_v17 (F := Ideal) x0 x1 (ix4 b q u l) := by
  have hb := binned_read x0 x1 b q u
  have key : val_main_v17 (F := Ideal) x0 x1 (ix4 b q u l)
      = (Finset.univ.filter fun i => reducesTo_S2x1024x50x256x8_S2x1024x50x8_d3.drop i = ix4 b q u l).fold min (⊤ : EReal)
        (val_main_v14 (F := Ideal) x0 x1) := by
    unfold val_main_v17
    refine (Host.reduce_eq_fold (f := (FloatOps.minimumf (F := Ideal) (φ := .f32))) _ _ _ _ _).trans ?_
    rw [val_main_cst_3_apply, inf_eq]
    rfl
  have hle : ∀ j, val_main_v17 (F := Ideal) x0 x1 (ix4 b q u l) ≤ fars x0 x1 b q (rowAt u j l) := fun j => by
    rw [key, ← hb j l]
    exact (Finset.fold_min_le (β := EReal) _).mpr (Or.inr ⟨ix5 b q u j l,
      Finset.mem_filter.mpr ⟨Finset.mem_univ _, (mem_bin b q u l _ _).mpr ⟨j, rfl⟩⟩, le_rfl⟩)
  refine ⟨hle, ?_⟩
  rcases (Finset.fold_min_le (β := EReal) _).mp key.ge with h | ⟨i, hi, h⟩
  · exact ⟨0, le_antisymm (le_top.trans h) (hle 0)⟩
  · obtain ⟨j, rfl⟩ := (mem_bin b q u l _ _).mp (Finset.mem_filter.mp hi).2
    exact ⟨j, le_antisymm ((hb j l).symm.le.trans h) (hle j)⟩

theorem row_word (b : Fin 2) (q : Fin 1024) (u : Fin 50) (j : Fin 256) (l : Fin 8) :
    val_main_call1_v1 (F := Ideal) (ix5 b q u j l) = BitVec.ofNat 32 (rowAt u j l) := by
  rw [val_main_call1_v1_apply, val_main_v16_apply, val_main_v15_apply]
  rfl

theorem none_word (b : Fin 2) (q : Fin 1024) (u : Fin 50) (j : Fin 256) (l : Fin 8) :
    val_main_call1_v2 (F := Ideal) (ix5 b q u j l) = 4294967295#32 := by
  rw [val_main_call1_v2_apply]
  rfl

theorem mark_read (b : Fin 2) (q : Fin 1024) (u : Fin 50) (j : Fin 256) (l : Fin 8) :
    val_main_v21 (F := Ideal) x0 x1 (ix5 b q u j l)
      = if fars x0 x1 b q (rowAt u j l) = val_main_v17 (F := Ideal) x0 x1 (ix4 b q u l) then BitVec.ofNat 32 (rowAt u j l)
        else 4294967295#32 := by
  rw [val_main_v21_apply, val_main_v20_apply, row_word, none_word, binned_read, val_main_v19_apply, val_main_v18_apply]
  have e : idx_main_v18 (idx_main_v19 (ix5 b q u j l)) = ix4 b q u l := funext fun a => match a with
    | ⟨0, _⟩ => rfl
    | ⟨1, _⟩ => rfl
    | ⟨2, _⟩ => rfl
    | ⟨3, _⟩ => rfl
  rw [e]
  exact (Cert.KernelIdeal.Knn.sel_hot _ _ _).trans (by simp only [decide_eq_true_eq])

theorem rowAt_lt (u : Fin 50) (j : Fin 256) (l : Fin 8) : rowAt u j l < 102400 := by unfold rowAt; omega

theorem toInt_row (u : Fin 50) (j : Fin 256) (l : Fin 8) : (BitVec.ofNat 32 (rowAt u j l)).toInt = rowAt u j l := by
  have := rowAt_lt u j l
  rw [BitVec.toInt_ofNat']
  simp only [Int.bmod]
  omega

/-- The row a bin is known by. -/
theorem bin_spec (b : Fin 2) (q : Fin 1024) (u : Fin 50) (l : Fin 8) :
    ∃ n, IsBest (fars x0 x1 b q) (8 * u.val + l.val) n ∧ val_main_v17 (F := Ideal) x0 x1 (ix4 b q u l) = fars x0 x1 b q n ∧
      val_main_v22 (F := Ideal) x0 x1 (ix4 b q u l) = BitVec.ofNat 32 n := by
  obtain ⟨hle, j0, hj0⟩ := least_spec x0 x1 b q u l
  have hm := fun j => mark_read x0 x1 b q u j l
  have key : val_main_v22 (F := Ideal) x0 x1 (ix4 b q u l)
      = (Finset.univ.filter fun i => reducesTo_S2x1024x50x256x8_S2x1024x50x8_d3.drop i = ix4 b q u l).fold IntOp.maxsi
        (2147483648#32) (val_main_v21 (F := Ideal) x0 x1) := by
    unfold val_main_v22
    exact Host.reduce_eq_fold (f := IntOp.maxsi) _ _ _ _ _
  have hmem : ∀ j, ix5 b q u j l ∈ Finset.univ.filter fun i => reducesTo_S2x1024x50x256x8_S2x1024x50x8_d3.drop i = ix4 b q u l :=
    fun j => Finset.mem_filter.mpr ⟨Finset.mem_univ _, (mem_bin b q u l _ _).mpr ⟨j, rfl⟩⟩
  obtain ⟨-, h2, h3⟩ := SortNet.fold_maxsi_spec (val_main_v21 (F := Ideal) x0 x1)
    (Finset.univ.filter fun i => reducesTo_S2x1024x50x256x8_S2x1024x50x8_d3.drop i = ix4 b q u l) (2147483648#32)
  rw [← key] at h2 h3
  have h0 := h2 _ (hmem j0)
  rw [hm j0, if_pos hj0, toInt_row] at h0
  rcases h3 with h3 | ⟨i, hi, h3⟩
  · rw [h3] at h0
    have : (2147483648#32 : BitVec 32).toInt = -2147483648 := by decide
    omega
  · obtain ⟨j, rfl⟩ := (mem_bin b q u l _ _).mp (Finset.mem_filter.mp hi).2
    rw [hm j] at h3
    by_cases hj : fars x0 x1 b q (rowAt u j l) = val_main_v17 (F := Ideal) x0 x1 (ix4 b q u l)
    · rw [if_pos hj] at h3
      refine ⟨rowAt u j l, ⟨rowAt_lt u j l, ?_, fun k hk hb => ?_⟩, hj.symm, h3⟩
      · unfold bin rowAt; omega
      · unfold bin at hb
        have ek : k = rowAt u ⟨k / 8 % 256, Nat.mod_lt _ (by decide)⟩ l := by unfold rowAt; show k = (u.val * 256 + k / 8 % 256) * 8 + l.val; omega
        generalize (⟨k / 8 % 256, Nat.mod_lt _ (by decide)⟩ : Fin 256) = j' at ek
        subst ek
        refine ⟨hj ▸ hle j', fun he => ?_⟩
        have h4 := h2 _ (hmem j')
        rw [hm j', if_pos (he.trans hj), h3, toInt_row, toInt_row] at h4
        exact_mod_cast h4
    · rw [if_neg hj] at h3
      rw [h3] at h0
      have : (4294967295#32 : BitVec 32).toInt = -1 := by decide
      omega

theorem binPlace (p : Fin 400) : 8 * (p.val / 8) + p.val % 8 = p.val := by omega

theorem near_read (b : Fin 2) (q : Fin 1024) (p : Fin 400) :
    val_main_v23 (F := Ideal) x0 x1 (ix3 b q p) = nearness (fars x0 x1 b q) p := by
  unfold val_main_v23
  refine (shapeCast_apply _ _ _ (ix4 b q ⟨p.val / 8, by omega⟩ ⟨p.val % 8, Nat.mod_lt _ (by decide)⟩) ?_).trans ?_
  · rewrite [Shape.rowMajor_val_three, Shape.rowMajor_val_four]
    show ((b.val * 1024 + q.val) * 50 + p.val / 8) * 8 + p.val % 8 = (b.val * 1024 + q.val) * 400 + p.val
    omega
  · obtain ⟨n, h1, h2, h3⟩ := bin_spec x0 x1 b q ⟨p.val / 8, by omega⟩ ⟨p.val % 8, Nat.mod_lt _ (by decide)⟩
    rw [h2, nearness]
    rw [show 8 * (⟨p.val / 8, _⟩ : Fin 50).val + (⟨p.val % 8, _⟩ : Fin 8).val = p.val from binPlace p] at h1
    rw [h1.row]

theorem word_read (b : Fin 2) (q : Fin 1024) (p : Fin 400) :
    val_main_v24 (F := Ideal) x0 x1 (ix3 b q p) = BitVec.ofNat 32 (bestRow (fars x0 x1 b q) p.val) := by
  unfold val_main_v24
  refine (shapeCast_apply _ _ _ (ix4 b q ⟨p.val / 8, by omega⟩ ⟨p.val % 8, Nat.mod_lt _ (by decide)⟩) ?_).trans ?_
  · rewrite [Shape.rowMajor_val_three, Shape.rowMajor_val_four]
    show ((b.val * 1024 + q.val) * 50 + p.val / 8) * 8 + p.val % 8 = (b.val * 1024 + q.val) * 400 + p.val
    omega
  · obtain ⟨n, h1, h2, h3⟩ := bin_spec x0 x1 b q ⟨p.val / 8, by omega⟩ ⟨p.val % 8, Nat.mod_lt _ (by decide)⟩
    rw [h3]
    rw [show 8 * (⟨p.val / 8, _⟩ : Fin 50).val + (⟨p.val % 8, _⟩ : Fin 8).val = p.val from binPlace p] at h1
    rw [h1.row]

/-- What the sort compares by: the distance itself, zero and all. -/
theorem key_eq (x : EReal) :
    Scalar.select (Ideal.cmp .une x x) (FloatOps.ofBits (F := Ideal) .f32 0x7FC00000#32)
      (Scalar.select (Ideal.cmp .oeq x (FloatOps.ofBits (F := Ideal) .f32 0x00000000#32)) (FloatOps.ofBits (F := Ideal) .f32 0x00000000#32) x) = x := by
  rw [zero_eq]
  by_cases h : x = 0 <;> simp [Ideal.cmp, Scalar.select, h]

/-- The sort's comparison puts the lesser distance first. -/
theorem comparator_eq (l r : Ideal .f32 × BitVec 32) :
    (comparator_f32_i32_d2 (F := Ideal) l r == 1#1) = decide ((l.1 : EReal) < r.1) := by
  have e : comparator_f32_i32_d2 (F := Ideal) l r = Ideal.cmp .olt (l.1 : EReal) r.1 := by
    refine Eq.trans ?_ (congrArg₂ (Ideal.cmp .olt) (key_eq l.1) (key_eq r.1))
    rfl
  rw [e]
  by_cases h : (l.1 : EReal) < r.1 <;> simp [Ideal.cmp, h]

theorem along_eq (h : 2 < S2x1024x400.rank) (b : Fin 2) (q : Fin 1024) (p k : Fin 400) :
    Shape.Idx.along (s := S2x1024x400) (ix3 b q p) ⟨2, h⟩ k = ix3 b q k := by
  funext a
  match a with
  | ⟨0, _⟩ => rfl
  | ⟨1, _⟩ => rfl
  | ⟨2, _⟩ => rfl

/-- A sort along the last axis, read at an index. -/
theorem sort_at {α β : Type} (cmp : α × β → α × β → BitVec 1) (x : S2x1024x400.Idx → α) (y : S2x1024x400.Idx → β)
    (g : Fin 400 → Fin 400) (b : Fin 2) (q : Fin 1024) (p : Fin 400)
    (hg : (sortedFrom fun k k' : Fin 400 => cmp (x (ix3 b q k), y (ix3 b q k)) (x (ix3 b q k'), y (ix3 b q k')) == 1#1) = g) :
    (Host.sort2 S2x1024x400 2 cmp x y).1 (ix3 b q p) = x (ix3 b q (g p)) ∧
      (Host.sort2 S2x1024x400 2 cmp x y).2 (ix3 b q p) = y (ix3 b q (g p)) := by
  subst hg
  have h2 : 2 < S2x1024x400.rank := by decide
  unfold Host.sort2
  rw [dif_pos h2]
  have e : (sortedFrom fun k k' : Fin 400 => cmp (x (Shape.Idx.along (s := S2x1024x400) (ix3 b q p) ⟨2, h2⟩ k), y (Shape.Idx.along (s := S2x1024x400) (ix3 b q p) ⟨2, h2⟩ k))
        (x (Shape.Idx.along (s := S2x1024x400) (ix3 b q p) ⟨2, h2⟩ k'), y (Shape.Idx.along (s := S2x1024x400) (ix3 b q p) ⟨2, h2⟩ k')) == 1#1)
      = sortedFrom fun k k' : Fin 400 => cmp (x (ix3 b q k), y (ix3 b q k)) (x (ix3 b q k'), y (ix3 b q k')) == 1#1 := by
    refine congrArg sortedFrom (funext fun k => funext fun k' => ?_)
    rw [along_eq h2 b q p k, along_eq h2 b q p k']
  have e2 := (congrArg (fun g : Fin 400 → Fin 400 => Shape.Idx.along (s := S2x1024x400) (ix3 b q p) ⟨2, h2⟩ (g p)) e).trans (along_eq h2 b q p _)
  exact ⟨congrArg x e2, congrArg y e2⟩

theorem sorted_at (b : Fin 2) (q : Fin 1024) (p : Fin 400) :
    val_main_v25_0 (F := Ideal) x0 x1 (ix3 b q p) = val_main_v23 (F := Ideal) x0 x1 (ix3 b q (order (nearness (fars x0 x1 b q)) p)) ∧
    val_main_v25_1 (F := Ideal) x0 x1 (ix3 b q p) = val_main_v24 (F := Ideal) x0 x1 (ix3 b q (order (nearness (fars x0 x1 b q)) p)) := by
  have hn := near_read x0 x1 b q
  unfold val_main_v25_0 val_main_v25_1
  generalize val_main_v23 (F := Ideal) x0 x1 = v at hn
  generalize val_main_v24 (F := Ideal) x0 x1 = w
  refine sort_at _ v w _ b q p ?_
  unfold order
  refine sortedFrom_congr _ _ fun k k' _ => ?_
  rw [comparator_eq]
  simp only [hn]

/-- The place of a result among the bins. -/
theorem place_eq (r : Fin 16) : (⟨r.val, by omega⟩ : Fin 400) = Cert.KernelIdeal.Knn.place r := rfl

theorem values_read (b : Fin 2) (q : Fin 1024) (r : Fin 16) :
    val_main_v27 (F := Ideal) x0 x1 (ix3 b q r) = fars x0 x1 b q (nearRow (fars x0 x1 b q) (Cert.KernelIdeal.Knn.place r)) := by
  rw [val_main_v27_apply]
  have e : idx_main_v27 (ix3 b q r) = ix3 b q (Cert.KernelIdeal.Knn.place r) := funext fun a => match a with
    | ⟨0, _⟩ => rfl
    | ⟨1, _⟩ => rfl
    | ⟨2, _⟩ => rfl
  rw [e, (sorted_at x0 x1 b q _).1, near_read]
  rfl

theorem words_read (b : Fin 2) (q : Fin 1024) (r : Fin 16) :
    val_main_v26 (F := Ideal) x0 x1 (ix3 b q r) = BitVec.ofNat 32 (nearRow (fars x0 x1 b q) (Cert.KernelIdeal.Knn.place r)) := by
  rw [val_main_v26_apply]
  have e : idx_main_v26 (ix3 b q r) = ix3 b q (Cert.KernelIdeal.Knn.place r) := funext fun a => match a with
    | ⟨0, _⟩ => rfl
    | ⟨1, _⟩ => rfl
    | ⟨2, _⟩ => rfl
  rw [e, (sorted_at x0 x1 b q _).2, word_read]
  rfl

end Cert.ReferenceIdeal.Knn
end
-- ==== Proof.Tree.lean ====
/-
A chunk's halving tree over the extended reals: row `s` of what a half stores is the least of the rows
congruent to `s` modulo 8, the largest row among equals, and that row's number.
-/
module

public import proofs.«01_k».proof.Proof.Column

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

open Cert.Knn

/-- After a level of `h` rows: row `i` holds the least `f n` over the `n < 2048` congruent to `i` modulo `h`,
    and beside it the largest such `n` among equals. -/
def Lvl (h : ℕ) (v : FVec Ideal ⟨2, ![h, 1024]⟩ .f32) (iv : IVec ⟨2, ![h, 1024]⟩ 32) (f : ℕ → EReal) (q : Fin 1024) : Prop :=
  ∀ i : Fin h, ∃ n : ℕ, n < 2048 ∧ n % h = i.val ∧ iv (ix2 i q) = BitVec.ofNat 32 n ∧ v (ix2 i q) = f n ∧
    ∀ m : ℕ, m < 2048 → m % h = i.val → f n ≤ f m ∧ (f m = f n → m ≤ n)

theorem half_lo {α : Type} {H h : ℕ} (hH : H = 2 * h) (x : (⟨2, ![H, 1024]⟩ : Shape).Idx → α)
    (hs : Shape.Slices ⟨2, ![H, 1024]⟩ ![0, 0] ⟨2, ![h, 1024]⟩) (i : Fin h) (q : Fin 1024) :
    extractStridedSlice ⟨2, ![h, 1024]⟩ ![0, 0] x hs (ix2 i q) = x (ix2 ⟨i.val, by omega⟩ q) := by
  unfold extractStridedSlice
  congr 1
  funext a
  match a with
  | ⟨0, _⟩ => exact Fin.ext (Nat.zero_add _)
  | ⟨1, _⟩ => exact Fin.ext (Nat.zero_add _)

theorem half_hi {α : Type} {H h : ℕ} (hH : H = 2 * h) (x : (⟨2, ![H, 1024]⟩ : Shape).Idx → α)
    (hs : Shape.Slices ⟨2, ![H, 1024]⟩ ![h, 0] ⟨2, ![h, 1024]⟩) (i : Fin h) (q : Fin 1024) :
    extractStridedSlice ⟨2, ![h, 1024]⟩ ![h, 0] x hs (ix2 i q) = x (ix2 ⟨h + i.val, by omega⟩ q) := by
  unfold extractStridedSlice
  congr 1
  funext a
  match a with
  | ⟨0, _⟩ => exact Fin.ext rfl
  | ⟨1, _⟩ => exact Fin.ext (Nat.zero_add _)

theorem toInt_row (n : ℕ) (hn : n < 2048) : (BitVec.ofNat 32 n).toInt = n := by
  rw [BitVec.toInt_ofNat']
  simp [Int.bmod]
  omega

theorem sgt_rows (n m : ℕ) (hn : n < 2048) (hm : m < 2048) :
    IntOp.cmpi .sgt (BitVec.ofNat 32 n) (BitVec.ofNat 32 m) = BitVec.ofBool (decide (m < n)) := by
  show BitVec.ofBool ((BitVec.ofNat 32 m).slt (BitVec.ofNat 32 n)) = _
  congr 1
  rw [BitVec.slt, toInt_row n hn, toInt_row m hm]
  simp

theorem or_and_bits (a b c : Bool) :
    IntOp.ori (BitVec.ofBool a) (IntOp.andi (BitVec.ofBool b) (BitVec.ofBool c)) = BitVec.ofBool (a || (b && c)) := by
  cases a <;> cases b <;> cases c <;> rfl

theorem mod_half {n h i : ℕ} (hi : i < h) (e : n % h = i) : n % (2 * h) = i ∨ n % (2 * h) = h + i := by
  have hlt := Nat.mod_lt n (show 0 < 2 * h by omega)
  have h2 : n % (2 * h) % h = i := by rw [Nat.mod_mul_left_mod, e]
  by_cases hc : n % (2 * h) < h
  · left; rwa [Nat.mod_eq_of_lt hc] at h2
  · right
    have h3 : (n % (2 * h) - h) % h = i := by rw [← Nat.mod_eq_sub_mod (not_lt.mp hc), h2]
    rw [Nat.mod_eq_of_lt (by omega)] at h3
    omega

/-- One level of the tree. -/
theorem step {H h : ℕ} {f : ℕ → EReal} {q : Fin 1024} (hH : H = 2 * h) {v : FVec Ideal ⟨2, ![H, 1024]⟩ .f32}
    {iv : IVec ⟨2, ![H, 1024]⟩ 32} (L : Lvl H v iv f q) (a b : FVec Ideal ⟨2, ![h, 1024]⟩ .f32)
    (ai bi : IVec ⟨2, ![h, 1024]⟩ 32) (c : IVec ⟨2, ![h, 1024]⟩ 1)
    (hs : Shape.Slices ⟨2, ![H, 1024]⟩ ![0, 0] ⟨2, ![h, 1024]⟩) (hs' : Shape.Slices ⟨2, ![H, 1024]⟩ ![h, 0] ⟨2, ![h, 1024]⟩)
    (ea : a = extractStridedSlice ⟨2, ![h, 1024]⟩ ![0, 0] v hs) (eb : b = extractStridedSlice ⟨2, ![h, 1024]⟩ ![h, 0] v hs')
    (eai : ai = extractStridedSlice ⟨2, ![h, 1024]⟩ ![0, 0] iv hs) (ebi : bi = extractStridedSlice ⟨2, ![h, 1024]⟩ ![h, 0] iv hs')
    (ec : c = ori (cmpf .olt a b) (andi (cmpf .oeq a b) (cmpi .sgt ai bi))) :
    Lvl h (select c a b) (select c ai bi) f q := by
  intro i
  obtain ⟨n, hn, nm, ni, nv, nl⟩ := L ⟨i.val, by omega⟩
  obtain ⟨m, hm, mm, mi, mv, ml⟩ := L ⟨h + i.val, by omega⟩
  have va : a (ix2 i q) = f n := by rw [ea, half_lo hH, nv]
  have vb : b (ix2 i q) = f m := by rw [eb, half_hi hH, mv]
  have wa : ai (ix2 i q) = BitVec.ofNat 32 n := by rw [eai, half_lo hH, ni]
  have wb : bi (ix2 i q) = BitVec.ofNat 32 m := by rw [ebi, half_hi hH, mi]
  have hc : c (ix2 i q) = BitVec.ofBool (decide (f n < f m) || (decide (f n = f m) && decide (m < n))) := by
    rw [ec]
    show IntOp.ori (Ideal.cmp .olt (a (ix2 i q)) (b (ix2 i q))) (IntOp.andi (Ideal.cmp .oeq (a (ix2 i q)) (b (ix2 i q)))
      (IntOp.cmpi .sgt (ai (ix2 i q)) (bi (ix2 i q)))) = _
    rw [va, vb, wa, wb, sgt_rows n m hn hm]
    exact or_and_bits _ _ _
  have sv : select c a b (ix2 i q) = if f n < f m ∨ (f n = f m ∧ m < n) then f n else f m := by
    show Scalar.select (c (ix2 i q)) (a (ix2 i q)) (b (ix2 i q)) = _
    rw [hc, sel_hot, va, vb]
    simp only [Bool.or_eq_true, Bool.and_eq_true, decide_eq_true_eq]
  have sw : select c ai bi (ix2 i q) = if f n < f m ∨ (f n = f m ∧ m < n) then BitVec.ofNat 32 n else BitVec.ofNat 32 m := by
    show Scalar.select (c (ix2 i q)) (ai (ix2 i q)) (bi (ix2 i q)) = _
    rw [hc, sel_hot, wa, wb]
    simp only [Bool.or_eq_true, Bool.and_eq_true, decide_eq_true_eq]
  have back : ∀ x : ℕ, x % h = i.val → x % H = i.val ∨ x % H = h + i.val := fun x hx => hH ▸ mod_half i.isLt hx
  have down : ∀ x : ℕ, x % H % h = x % h := fun x => by rw [hH, Nat.mod_mul_left_mod]
  by_cases hcase : f n < f m ∨ (f n = f m ∧ m < n)
  · refine ⟨n, hn, ?_, by rw [sw, if_pos hcase], by rw [sv, if_pos hcase], fun x hx hxm => ?_⟩
    · rw [← down, nm]; exact Nat.mod_eq_of_lt i.isLt
    · rcases back x hxm with hb | hb
      · exact nl x hx hb
      · have h3 := ml x hx hb
        rcases hcase with h1 | ⟨h1, h2⟩
        · exact ⟨h1.le.trans h3.1, fun he => absurd (h1.trans_le h3.1) (by rw [he]; exact lt_irrefl _)⟩
        · exact ⟨h1 ▸ h3.1, fun he => (h3.2 (he.trans h1)).trans h2.le⟩
  · refine ⟨m, hm, ?_, by rw [sw, if_neg hcase], by rw [sv, if_neg hcase], fun x hx hxm => ?_⟩
    · rw [← down, mm, Nat.add_mod_left]; exact Nat.mod_eq_of_lt i.isLt
    · have h1 : f m ≤ f n := not_lt.mp fun hh => hcase (Or.inl hh)
      rcases back x hxm with hb | hb
      · have h3 := nl x hx hb
        refine ⟨h1.trans h3.1, fun he => ?_⟩
        have h4 : f n = f m := le_antisymm (he ▸ h3.1) h1
        exact (h3.2 (he.trans h4.symm)).trans (not_lt.mp fun hh => hcase (Or.inr ⟨h4, hh⟩))
      · exact ml x hx hb

variable (x0 : Vec Ideal S1x4096x64 .bf16) (x1 : Vec Ideal S1x64x1024 .bf16) (x2 : Vec Ideal S1x1x1024 .f32)
  (x3 : Vec Ideal S1x4096x1 .f32) (q : Fin 1024)

/-- A chunk's distances to query `q`, by row. -/
def dist (n : ℕ) : EReal := if h : n < 4096 then k0_pay68 (F := Ideal) x0 x1 x2 x3 (ix2 ⟨n, h⟩ q) else ⊤

theorem dist_lt (n : ℕ) (h : n < 4096) : dist x0 x1 x2 x3 q n = k0_pay68 (F := Ideal) x0 x1 x2 x3 (ix2 ⟨n, h⟩ q) := dif_pos h

/-- The row numbers of a half. -/
def rows : IVec S2048x1024 32 := iota .tc S2048x1024 32 [0] iota_S2048x1024_d0_w32

theorem rows_read (i : Fin 2048) : rows (ix2 i q) = BitVec.ofNat 32 i.val := by
  simp [rows, iota, ix2]

theorem start {f : ℕ → EReal} {v : FVec Ideal S2048x1024 .f32} (hv : ∀ i : Fin 2048, v (ix2 i q) = f i.val) :
    Lvl 2048 v rows f q := by
  intro i
  refine ⟨i.val, i.isLt, Nat.mod_eq_of_lt i.isLt, rows_read q i, hv i, fun m hm he => ?_⟩
  rw [Nat.mod_eq_of_lt hm] at he
  subst he
  exact ⟨le_rfl, fun _ => le_rfl⟩

theorem first_half : Lvl 8 (k0_pay125 (F := Ideal) (k0_pay84 (F := Ideal) x0 x1 x2 x3) (k0_pay85 (F := Ideal) x0 x1 x2 x3) (k0_pay86 (F := Ideal) x0 x1 x2 x3) (k0_pay87 (F := Ideal) x0 x1 x2 x3) (k0_pay88 (F := Ideal) x0 x1 x2 x3))
    (select (k0_pay124 (F := Ideal) (k0_pay84 (F := Ideal) x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay122 (F := Ideal) (k0_pay84 (F := Ideal) x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay123 (F := Ideal) (k0_pay84 (F := Ideal) x0 x1 x2 x3) (k0_pay85 (F := Ideal) x0 x1 x2 x3) (k0_pay86 (F := Ideal) x0 x1 x2 x3) (k0_pay87 (F := Ideal) x0 x1 x2 x3) (k0_pay88 (F := Ideal) x0 x1 x2 x3)))
    (dist x0 x1 x2 x3 q) q := by
  generalize hf : dist x0 x1 x2 x3 q = f
  have L2048 : Lvl 2048 (k0_pay69 (F := Ideal) x0 x1 x2 x3) rows f q := by
    refine start q fun i => ?_
    rw [← hf, dist_lt _ _ _ _ _ _ (by omega)]
    exact half_lo (H := 4096) rfl (k0_pay68 (F := Ideal) x0 x1 x2 x3) (by decide) i q
  have L1024 : Lvl 1024 (k0_pay75 (F := Ideal) x0 x1 x2 x3) (k0_pay76 (F := Ideal) x0 x1 x2 x3) f q := step rfl L2048 _ _ _ _ _ (by decide) (by decide) rfl rfl rfl rfl rfl
  have L512 : Lvl 512 (k0_pay82 (F := Ideal) x0 x1 x2 x3) (k0_pay83 (F := Ideal) x0 x1 x2 x3) f q := step rfl L1024 _ _ _ _ _ (by decide) (by decide) rfl rfl rfl rfl rfl
  have L256 : Lvl 256 (k0_pay90 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay91 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) f q := step rfl L512 _ _ _ _ _ (by decide) (by decide) rfl rfl rfl rfl rfl
  have L128 : Lvl 128 (k0_pay97 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay98 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) f q := step rfl L256 _ _ _ _ _ (by decide) (by decide) rfl rfl rfl rfl rfl
  have L64 : Lvl 64 (k0_pay104 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay105 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) f q := step rfl L128 _ _ _ _ _ (by decide) (by decide) rfl rfl rfl rfl rfl
  have L32 : Lvl 32 (k0_pay111 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay112 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) f q := step rfl L64 _ _ _ _ _ (by decide) (by decide) rfl rfl rfl rfl rfl
  have L16 : Lvl 16 (k0_pay118 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) (k0_pay119 (F := Ideal) (k0_pay84 x0 x1 x2 x3) (k0_pay85 (F := Ideal) x0 x1 x2 x3) (k0_pay86 (F := Ideal) x0 x1 x2 x3) (k0_pay87 (F := Ideal) x0 x1 x2 x3) (k0_pay88 (F := Ideal) x0 x1 x2 x3)) f q := step rfl L32 _ _ _ _ _ (by decide) (by decide) rfl rfl rfl rfl rfl
  exact step rfl L16 _ _ _ _ _ (by decide) (by decide) rfl rfl rfl rfl rfl

theorem second_half : Lvl 8 (k0_pay183 (F := Ideal) (k0_pay143 (F := Ideal) (k0_pay68 x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) (k0_pay184 (F := Ideal) (k0_pay143 (F := Ideal) (k0_pay68 x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3)))
    (fun n => dist x0 x1 x2 x3 q (2048 + n)) q := by
  generalize hf : (fun n => dist x0 x1 x2 x3 q (2048 + n)) = f
  have L2048 : Lvl 2048 (k0_pay128 (F := Ideal) (k0_pay68 (F := Ideal) x0 x1 x2 x3)) rows f q := by
    refine start q fun i => ?_
    rw [← hf]
    show _ = dist x0 x1 x2 x3 q (2048 + i.val)
    rw [dist_lt _ _ _ _ _ _ (by omega)]
    exact half_hi (H := 4096) rfl (k0_pay68 (F := Ideal) x0 x1 x2 x3) (by decide) i q
  have L1024 : Lvl 1024 (k0_pay134 (F := Ideal) (k0_pay68 x0 x1 x2 x3)) (k0_pay135 (F := Ideal) (k0_pay68 x0 x1 x2 x3)) f q := step rfl L2048 _ _ _ _ _ (by decide) (by decide) rfl rfl rfl rfl rfl
  have L512 : Lvl 512 (k0_pay141 (F := Ideal) (k0_pay68 x0 x1 x2 x3)) (k0_pay142 (F := Ideal) (k0_pay68 x0 x1 x2 x3)) f q := step rfl L1024 _ _ _ _ _ (by decide) (by decide) rfl rfl rfl rfl rfl
  have L256 : Lvl 256 (k0_pay148 (F := Ideal) (k0_pay143 (k0_pay68 (F := Ideal) x0 x1 x2 x3)) (k0_pay144 (F := Ideal) (k0_pay68 x0 x1 x2 x3)) (k0_pay147 (F := Ideal) (k0_pay68 x0 x1 x2 x3))) (k0_pay149 (k0_pay145 (k0_pay68 (F := Ideal) x0 x1 x2 x3)) (k0_pay146 (F := Ideal) (k0_pay68 x0 x1 x2 x3)) (k0_pay147 (F := Ideal) (k0_pay68 x0 x1 x2 x3))) f q := step rfl L512 _ _ _ _ _ (by decide) (by decide) rfl rfl rfl rfl rfl
  have L128 : Lvl 128 (k0_pay155 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) (k0_pay156 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) f q := step rfl L256 _ _ _ _ _ (by decide) (by decide) rfl rfl rfl rfl rfl
  have L64 : Lvl 64 (k0_pay162 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) (k0_pay163 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) f q := step rfl L128 _ _ _ _ _ (by decide) (by decide) rfl rfl rfl rfl rfl
  have L32 : Lvl 32 (k0_pay169 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) (k0_pay170 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) f q := step rfl L64 _ _ _ _ _ (by decide) (by decide) rfl rfl rfl rfl rfl
  have L16 : Lvl 16 (k0_pay176 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) (k0_pay177 (F := Ideal) (k0_pay143 (k0_pay68 (F := Ideal) x0 x1 x2 x3)) (k0_pay144 (F := Ideal) (k0_pay68 x0 x1 x2 x3)) (k0_pay145 (F := Ideal) (k0_pay68 x0 x1 x2 x3)) (k0_pay146 (F := Ideal) (k0_pay68 x0 x1 x2 x3)) (k0_pay147 (F := Ideal) (k0_pay68 x0 x1 x2 x3))) f q := step rfl L32 _ _ _ _ _ (by decide) (by decide) rfl rfl rfl rfl rfl
  exact step rfl L16 _ _ _ _ _ (by decide) (by decide) rfl rfl rfl rfl rfl

theorem same_rows {α : Type} (v : S8x1024.Idx → α) : shapeCast S8x1024 v shapeCasts_S8x1024_S8x1024 = v := by
  funext j
  simp only [pointwise]

/-- What the first half stores in its row `s`. -/
theorem half0_spec (i : grid0.Coords) (s : Fin 8) :
    ∃ n : ℕ, n < 2048 ∧ n % 8 = s.val ∧ idx0 (F := Ideal) x0 x1 x2 x3 i (ix2 s q) = BitVec.ofNat 32 ((i 1).val * 4096 + n) ∧
      val0 (F := Ideal) x0 x1 x2 x3 (ix2 s q) = dist x0 x1 x2 x3 q n ∧
      ∀ m : ℕ, m < 2048 → m % 8 = s.val → dist x0 x1 x2 x3 q n ≤ dist x0 x1 x2 x3 q m ∧
        (dist x0 x1 x2 x3 q m = dist x0 x1 x2 x3 q n → m ≤ n) := by
  obtain ⟨n, hn, nm, ni, nv, nl⟩ := first_half x0 x1 x2 x3 q s
  refine ⟨n, hn, nm, ?_, ?_, nl⟩
  · unfold idx0 k0_pay127
    rw [same_rows]
    show BitVec.ofNat 32 (i 1).val * 4096#32 + 0#32 + _ = _
    refine (congrArg _ ni).trans ?_
    rw [BitVec.add_zero, BitVec.ofNat_add, BitVec.ofNat_mul]
  · unfold val0 k0_pay126
    rw [same_rows]
    exact nv

/-- What the second half stores in its row `s`. -/
theorem half1_spec (i : grid0.Coords) (s : Fin 8) :
    ∃ n : ℕ, n < 2048 ∧ n % 8 = s.val ∧
      idx1 (F := Ideal) x0 x1 x2 x3 i (ix2 s q) = BitVec.ofNat 32 ((i 1).val * 4096 + 2048 + n) ∧
      val1 (F := Ideal) x0 x1 x2 x3 (ix2 s q) = dist x0 x1 x2 x3 q (2048 + n) ∧
      ∀ m : ℕ, m < 2048 → m % 8 = s.val → dist x0 x1 x2 x3 q (2048 + n) ≤ dist x0 x1 x2 x3 q (2048 + m) ∧
        (dist x0 x1 x2 x3 q (2048 + m) = dist x0 x1 x2 x3 q (2048 + n) → m ≤ n) := by
  obtain ⟨n, hn, nm, ni, nv, nl⟩ := second_half x0 x1 x2 x3 q s
  refine ⟨n, hn, nm, ?_, ?_, nl⟩
  · unfold idx1 k0_pay2
    rw [same_rows]
    show BitVec.ofNat 32 (i 1).val * 4096#32 + 2048#32 + _ = _
    refine (congrArg _ ni).trans ?_
    rw [BitVec.ofNat_add, BitVec.ofNat_add, BitVec.ofNat_mul]
  · unfold val1 k0_pay1
    rw [same_rows]
    exact nv

end Cert.KernelIdeal.Knn

end
-- ==== Proof.Host.lean ====
/- What the launch finds in its input arrays: the sums of squares, the padded rows and the transposed queries. -/
module
public import proofs.«01_k».proof.Proof.Launch
public import proofs.«01_k».proof.Proof.Tree
@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-- Sixty-four terms, taken eight at a stride of eight, are all of them. -/
theorem sum_strided (f : Fin 64 → EReal) :
    ∑ l : Fin 8, ∑ s : Fin 8, f ⟨8 * s.val + l.val, by omega⟩ = ∑ k : Fin 64, f k := by
  rw [Finset.sum_comm, ← Finset.sum_product']
  refine Fintype.sum_equiv (finProdFinEquiv (m := 8) (n := 8)) _ _ fun p => ?_
  congr 1
  apply Fin.ext
  simp [finProdFinEquiv, add_comm]

theorem fold_order (a b c d e f g h : EReal) :
    ((a + e) + (c + g)) + ((b + f) + (d + h)) = a + b + c + d + e + f + g + h := by ac_rfl

/-- The squares of a row, folded eight to one. -/
def sqQ (x : FVec F S2x1024x64 .f32) : FVec F S2x1024x8 .f32 :=
  (addf (addf (addf (addf (addf (addf (addf (shapeCast S2x1024x8 (extractStridedSlice S2x1024x1x8 ![0, 0, 0, 0] (shapeCast S2x1024x8x8 (mulf x x) shapeCasts_S2x1024x64_S2x1024x8x8) slices_S2x1024x8x8_S2x1024x1x8_0_0_0_0) shapeCasts_S2x1024x1x8_S2x1024x8)
    (shapeCast S2x1024x8 (extractStridedSlice S2x1024x1x8 ![0, 0, 1, 0] (shapeCast S2x1024x8x8 (mulf x x) shapeCasts_S2x1024x64_S2x1024x8x8) slices_S2x1024x8x8_S2x1024x1x8_0_0_1_0) shapeCasts_S2x1024x1x8_S2x1024x8))
    (shapeCast S2x1024x8 (extractStridedSlice S2x1024x1x8 ![0, 0, 2, 0] (shapeCast S2x1024x8x8 (mulf x x) shapeCasts_S2x1024x64_S2x1024x8x8) slices_S2x1024x8x8_S2x1024x1x8_0_0_2_0) shapeCasts_S2x1024x1x8_S2x1024x8))
    (shapeCast S2x1024x8 (extractStridedSlice S2x1024x1x8 ![0, 0, 3, 0] (shapeCast S2x1024x8x8 (mulf x x) shapeCasts_S2x1024x64_S2x1024x8x8) slices_S2x1024x8x8_S2x1024x1x8_0_0_3_0) shapeCasts_S2x1024x1x8_S2x1024x8))
    (shapeCast S2x1024x8 (extractStridedSlice S2x1024x1x8 ![0, 0, 4, 0] (shapeCast S2x1024x8x8 (mulf x x) shapeCasts_S2x1024x64_S2x1024x8x8) slices_S2x1024x8x8_S2x1024x1x8_0_0_4_0) shapeCasts_S2x1024x1x8_S2x1024x8))
    (shapeCast S2x1024x8 (extractStridedSlice S2x1024x1x8 ![0, 0, 5, 0] (shapeCast S2x1024x8x8 (mulf x x) shapeCasts_S2x1024x64_S2x1024x8x8) slices_S2x1024x8x8_S2x1024x1x8_0_0_5_0) shapeCasts_S2x1024x1x8_S2x1024x8))
    (shapeCast S2x1024x8 (extractStridedSlice S2x1024x1x8 ![0, 0, 6, 0] (shapeCast S2x1024x8x8 (mulf x x) shapeCasts_S2x1024x64_S2x1024x8x8) slices_S2x1024x8x8_S2x1024x1x8_0_0_6_0) shapeCasts_S2x1024x1x8_S2x1024x8))
    (shapeCast S2x1024x8 (extractStridedSlice S2x1024x1x8 ![0, 0, 7, 0] (shapeCast S2x1024x8x8 (mulf x x) shapeCasts_S2x1024x64_S2x1024x8x8) slices_S2x1024x8x8_S2x1024x1x8_0_0_7_0) shapeCasts_S2x1024x1x8_S2x1024x8))

/-- Eight columns folded to four, by halves. -/
def fourQ (y : FVec F S2x1024x8 .f32) : FVec F S2x1024x4 .f32 :=
  addf (extractStridedSlice S2x1024x4 ![0, 0, 0] y slices_S2x1024x8_S2x1024x4_0_0_0)
    (extractStridedSlice S2x1024x4 ![0, 0, 4] y slices_S2x1024x8_S2x1024x4_0_0_4)

/-- Four columns folded to two. -/
def twoQ (y : FVec F S2x1024x4 .f32) : FVec F S2x1024x2 .f32 :=
  addf (extractStridedSlice S2x1024x2 ![0, 0, 0] y slices_S2x1024x4_S2x1024x2_0_0_0)
    (extractStridedSlice S2x1024x2 ![0, 0, 2] y slices_S2x1024x4_S2x1024x2_0_0_2)

/-- Two columns folded to one. -/
def oneQ (y : FVec F S2x1024x2 .f32) : FVec F S2x1024 .f32 :=
  addf (shapeCast S2x1024 (extractStridedSlice S2x1024x1 ![0, 0, 0] y slices_S2x1024x2_S2x1024x1_0_0_0) shapeCasts_S2x1024x1_S2x1024)
    (shapeCast S2x1024 (extractStridedSlice S2x1024x1 ![0, 0, 1] y slices_S2x1024x2_S2x1024x1_0_0_1) shapeCasts_S2x1024x1_S2x1024)

/-- The sum of squares of every row, in the kernel's order of adding. -/
def sumQ (x : FVec F S2x1024x64 .f32) : FVec F S2x1024 .f32 :=
  oneQ (twoQ (fourQ (sqQ x)))

theorem sliceQ_0 (x : FVec Ideal S2x1024x64 .f32) (a : Fin 2) (b : Fin 1024) (l : Fin 8) :
    (shapeCast S2x1024x8 (extractStridedSlice S2x1024x1x8 ![0, 0, 0, 0] (shapeCast S2x1024x8x8 (mulf x x) shapeCasts_S2x1024x64_S2x1024x8x8) slices_S2x1024x8x8_S2x1024x1x8_0_0_0_0) shapeCasts_S2x1024x1x8_S2x1024x8) (ix3 a b l) = x (ix3 a b ⟨8 * 0 + l.val, by omega⟩) * x (ix3 a b ⟨8 * 0 + l.val, by omega⟩) := by
  simp [pointwise]

theorem sliceQ_1 (x : FVec Ideal S2x1024x64 .f32) (a : Fin 2) (b : Fin 1024) (l : Fin 8) :
    (shapeCast S2x1024x8 (extractStridedSlice S2x1024x1x8 ![0, 0, 1, 0] (shapeCast S2x1024x8x8 (mulf x x) shapeCasts_S2x1024x64_S2x1024x8x8) slices_S2x1024x8x8_S2x1024x1x8_0_0_1_0) shapeCasts_S2x1024x1x8_S2x1024x8) (ix3 a b l) = x (ix3 a b ⟨8 * 1 + l.val, by omega⟩) * x (ix3 a b ⟨8 * 1 + l.val, by omega⟩) := by
  simp [pointwise]

theorem sliceQ_2 (x : FVec Ideal S2x1024x64 .f32) (a : Fin 2) (b : Fin 1024) (l : Fin 8) :
    (shapeCast S2x1024x8 (extractStridedSlice S2x1024x1x8 ![0, 0, 2, 0] (shapeCast S2x1024x8x8 (mulf x x) shapeCasts_S2x1024x64_S2x1024x8x8) slices_S2x1024x8x8_S2x1024x1x8_0_0_2_0) shapeCasts_S2x1024x1x8_S2x1024x8) (ix3 a b l) = x (ix3 a b ⟨8 * 2 + l.val, by omega⟩) * x (ix3 a b ⟨8 * 2 + l.val, by omega⟩) := by
  simp [pointwise]

theorem sliceQ_3 (x : FVec Ideal S2x1024x64 .f32) (a : Fin 2) (b : Fin 1024) (l : Fin 8) :
    (shapeCast S2x1024x8 (extractStridedSlice S2x1024x1x8 ![0, 0, 3, 0] (shapeCast S2x1024x8x8 (mulf x x) shapeCasts_S2x1024x64_S2x1024x8x8) slices_S2x1024x8x8_S2x1024x1x8_0_0_3_0) shapeCasts_S2x1024x1x8_S2x1024x8) (ix3 a b l) = x (ix3 a b ⟨8 * 3 + l.val, by omega⟩) * x (ix3 a b ⟨8 * 3 + l.val, by omega⟩) := by
  simp [pointwise]

theorem sliceQ_4 (x : FVec Ideal S2x1024x64 .f32) (a : Fin 2) (b : Fin 1024) (l : Fin 8) :
    (shapeCast S2x1024x8 (extractStridedSlice S2x1024x1x8 ![0, 0, 4, 0] (shapeCast S2x1024x8x8 (mulf x x) shapeCasts_S2x1024x64_S2x1024x8x8) slices_S2x1024x8x8_S2x1024x1x8_0_0_4_0) shapeCasts_S2x1024x1x8_S2x1024x8) (ix3 a b l) = x (ix3 a b ⟨8 * 4 + l.val, by omega⟩) * x (ix3 a b ⟨8 * 4 + l.val, by omega⟩) := by
  simp [pointwise]

theorem sliceQ_5 (x : FVec Ideal S2x1024x64 .f32) (a : Fin 2) (b : Fin 1024) (l : Fin 8) :
    (shapeCast S2x1024x8 (extractStridedSlice S2x1024x1x8 ![0, 0, 5, 0] (shapeCast S2x1024x8x8 (mulf x x) shapeCasts_S2x1024x64_S2x1024x8x8) slices_S2x1024x8x8_S2x1024x1x8_0_0_5_0) shapeCasts_S2x1024x1x8_S2x1024x8) (ix3 a b l) = x (ix3 a b ⟨8 * 5 + l.val, by omega⟩) * x (ix3 a b ⟨8 * 5 + l.val, by omega⟩) := by
  simp [pointwise]

theorem sliceQ_6 (x : FVec Ideal S2x1024x64 .f32) (a : Fin 2) (b : Fin 1024) (l : Fin 8) :
    (shapeCast S2x1024x8 (extractStridedSlice S2x1024x1x8 ![0, 0, 6, 0] (shapeCast S2x1024x8x8 (mulf x x) shapeCasts_S2x1024x64_S2x1024x8x8) slices_S2x1024x8x8_S2x1024x1x8_0_0_6_0) shapeCasts_S2x1024x1x8_S2x1024x8) (ix3 a b l) = x (ix3 a b ⟨8 * 6 + l.val, by omega⟩) * x (ix3 a b ⟨8 * 6 + l.val, by omega⟩) := by
  simp [pointwise]

theorem sliceQ_7 (x : FVec Ideal S2x1024x64 .f32) (a : Fin 2) (b : Fin 1024) (l : Fin 8) :
    (shapeCast S2x1024x8 (extractStridedSlice S2x1024x1x8 ![0, 0, 7, 0] (shapeCast S2x1024x8x8 (mulf x x) shapeCasts_S2x1024x64_S2x1024x8x8) slices_S2x1024x8x8_S2x1024x1x8_0_0_7_0) shapeCasts_S2x1024x1x8_S2x1024x8) (ix3 a b l) = x (ix3 a b ⟨8 * 7 + l.val, by omega⟩) * x (ix3 a b ⟨8 * 7 + l.val, by omega⟩) := by
  simp [pointwise]

theorem sqQ_apply (x : FVec Ideal S2x1024x64 .f32) (a : Fin 2) (b : Fin 1024) (l : Fin 8) :
    sqQ x (ix3 a b l)
      = ∑ s : Fin 8, x (ix3 a b ⟨8 * s.val + l.val, by omega⟩) * x (ix3 a b ⟨8 * s.val + l.val, by omega⟩) := by
  rw [Fin.sum_univ_eight]
  unfold sqQ
  simp only [addf_apply, sliceQ_0, sliceQ_1, sliceQ_2, sliceQ_3, sliceQ_4, sliceQ_5, sliceQ_6, sliceQ_7]
  rfl

theorem foldQ_apply (y : FVec Ideal S2x1024x8 .f32) (a : Fin 2) (b : Fin 1024) :
    oneQ (twoQ (fourQ y)) (ix2 a b) = ∑ l : Fin 8, y (ix3 a b l) := by
  rw [Fin.sum_univ_eight]
  have e : oneQ (twoQ (fourQ y)) (ix2 a b)
      = ((y (ix3 a b 0) + y (ix3 a b 4)) + (y (ix3 a b 2) + y (ix3 a b 6)))
        + ((y (ix3 a b 1) + y (ix3 a b 5)) + (y (ix3 a b 3) + y (ix3 a b 7))) := by
    unfold oneQ twoQ fourQ
    simp [pointwise]
  rw [e]
  exact fold_order ..

theorem sumQ_apply (x : FVec Ideal S2x1024x64 .f32) (a : Fin 2) (b : Fin 1024) :
    sumQ x (ix2 a b) = ∑ k : Fin 64, x (ix3 a b k) * x (ix3 a b k) := by
  unfold sumQ
  rw [foldQ_apply, ← sum_strided]
  exact Finset.sum_congr rfl fun l _ => sqQ_apply x a b l

/-- The squares of a row, folded eight to one. -/
def sqR (x : FVec F S2x100000x64 .f32) : FVec F S2x100000x8 .f32 :=
  (addf (addf (addf (addf (addf (addf (addf (shapeCast S2x100000x8 (extractStridedSlice S2x100000x1x8 ![0, 0, 0, 0] (shapeCast S2x100000x8x8 (mulf x x) shapeCasts_S2x100000x64_S2x100000x8x8) slices_S2x100000x8x8_S2x100000x1x8_0_0_0_0) shapeCasts_S2x100000x1x8_S2x100000x8)
    (shapeCast S2x100000x8 (extractStridedSlice S2x100000x1x8 ![0, 0, 1, 0] (shapeCast S2x100000x8x8 (mulf x x) shapeCasts_S2x100000x64_S2x100000x8x8) slices_S2x100000x8x8_S2x100000x1x8_0_0_1_0) shapeCasts_S2x100000x1x8_S2x100000x8))
    (shapeCast S2x100000x8 (extractStridedSlice S2x100000x1x8 ![0, 0, 2, 0] (shapeCast S2x100000x8x8 (mulf x x) shapeCasts_S2x100000x64_S2x100000x8x8) slices_S2x100000x8x8_S2x100000x1x8_0_0_2_0) shapeCasts_S2x100000x1x8_S2x100000x8))
    (shapeCast S2x100000x8 (extractStridedSlice S2x100000x1x8 ![0, 0, 3, 0] (shapeCast S2x100000x8x8 (mulf x x) shapeCasts_S2x100000x64_S2x100000x8x8) slices_S2x100000x8x8_S2x100000x1x8_0_0_3_0) shapeCasts_S2x100000x1x8_S2x100000x8))
    (shapeCast S2x100000x8 (extractStridedSlice S2x100000x1x8 ![0, 0, 4, 0] (shapeCast S2x100000x8x8 (mulf x x) shapeCasts_S2x100000x64_S2x100000x8x8) slices_S2x100000x8x8_S2x100000x1x8_0_0_4_0) shapeCasts_S2x100000x1x8_S2x100000x8))
    (shapeCast S2x100000x8 (extractStridedSlice S2x100000x1x8 ![0, 0, 5, 0] (shapeCast S2x100000x8x8 (mulf x x) shapeCasts_S2x100000x64_S2x100000x8x8) slices_S2x100000x8x8_S2x100000x1x8_0_0_5_0) shapeCasts_S2x100000x1x8_S2x100000x8))
    (shapeCast S2x100000x8 (extractStridedSlice S2x100000x1x8 ![0, 0, 6, 0] (shapeCast S2x100000x8x8 (mulf x x) shapeCasts_S2x100000x64_S2x100000x8x8) slices_S2x100000x8x8_S2x100000x1x8_0_0_6_0) shapeCasts_S2x100000x1x8_S2x100000x8))
    (shapeCast S2x100000x8 (extractStridedSlice S2x100000x1x8 ![0, 0, 7, 0] (shapeCast S2x100000x8x8 (mulf x x) shapeCasts_S2x100000x64_S2x100000x8x8) slices_S2x100000x8x8_S2x100000x1x8_0_0_7_0) shapeCasts_S2x100000x1x8_S2x100000x8))

/-- Eight columns folded to four, by halves. -/
def fourR (y : FVec F S2x100000x8 .f32) : FVec F S2x100000x4 .f32 :=
  addf (extractStridedSlice S2x100000x4 ![0, 0, 0] y slices_S2x100000x8_S2x100000x4_0_0_0)
    (extractStridedSlice S2x100000x4 ![0, 0, 4] y slices_S2x100000x8_S2x100000x4_0_0_4)

/-- Four columns folded to two. -/
def twoR (y : FVec F S2x100000x4 .f32) : FVec F S2x100000x2 .f32 :=
  addf (extractStridedSlice S2x100000x2 ![0, 0, 0] y slices_S2x100000x4_S2x100000x2_0_0_0)
    (extractStridedSlice S2x100000x2 ![0, 0, 2] y slices_S2x100000x4_S2x100000x2_0_0_2)

/-- Two columns folded to one. -/
def oneR (y : FVec F S2x100000x2 .f32) : FVec F S2x100000 .f32 :=
  addf (shapeCast S2x100000 (extractStridedSlice S2x100000x1 ![0, 0, 0] y slices_S2x100000x2_S2x100000x1_0_0_0) shapeCasts_S2x100000x1_S2x100000)
    (shapeCast S2x100000 (extractStridedSlice S2x100000x1 ![0, 0, 1] y slices_S2x100000x2_S2x100000x1_0_0_1) shapeCasts_S2x100000x1_S2x100000)

/-- The sum of squares of every row, in the kernel's order of adding. -/
def sumR (x : FVec F S2x100000x64 .f32) : FVec F S2x100000 .f32 :=
  oneR (twoR (fourR (sqR x)))

theorem sliceR_0 (x : FVec Ideal S2x100000x64 .f32) (a : Fin 2) (b : Fin 100000) (l : Fin 8) :
    (shapeCast S2x100000x8 (extractStridedSlice S2x100000x1x8 ![0, 0, 0, 0] (shapeCast S2x100000x8x8 (mulf x x) shapeCasts_S2x100000x64_S2x100000x8x8) slices_S2x100000x8x8_S2x100000x1x8_0_0_0_0) shapeCasts_S2x100000x1x8_S2x100000x8) (ix3 a b l) = x (ix3 a b ⟨8 * 0 + l.val, by omega⟩) * x (ix3 a b ⟨8 * 0 + l.val, by omega⟩) := by
  simp [pointwise]

theorem sliceR_1 (x : FVec Ideal S2x100000x64 .f32) (a : Fin 2) (b : Fin 100000) (l : Fin 8) :
    (shapeCast S2x100000x8 (extractStridedSlice S2x100000x1x8 ![0, 0, 1, 0] (shapeCast S2x100000x8x8 (mulf x x) shapeCasts_S2x100000x64_S2x100000x8x8) slices_S2x100000x8x8_S2x100000x1x8_0_0_1_0) shapeCasts_S2x100000x1x8_S2x100000x8) (ix3 a b l) = x (ix3 a b ⟨8 * 1 + l.val, by omega⟩) * x (ix3 a b ⟨8 * 1 + l.val, by omega⟩) := by
  simp [pointwise]

theorem sliceR_2 (x : FVec Ideal S2x100000x64 .f32) (a : Fin 2) (b : Fin 100000) (l : Fin 8) :
    (shapeCast S2x100000x8 (extractStridedSlice S2x100000x1x8 ![0, 0, 2, 0] (shapeCast S2x100000x8x8 (mulf x x) shapeCasts_S2x100000x64_S2x100000x8x8) slices_S2x100000x8x8_S2x100000x1x8_0_0_2_0) shapeCasts_S2x100000x1x8_S2x100000x8) (ix3 a b l) = x (ix3 a b ⟨8 * 2 + l.val, by omega⟩) * x (ix3 a b ⟨8 * 2 + l.val, by omega⟩) := by
  simp [pointwise]

theorem sliceR_3 (x : FVec Ideal S2x100000x64 .f32) (a : Fin 2) (b : Fin 100000) (l : Fin 8) :
    (shapeCast S2x100000x8 (extractStridedSlice S2x100000x1x8 ![0, 0, 3, 0] (shapeCast S2x100000x8x8 (mulf x x) shapeCasts_S2x100000x64_S2x100000x8x8) slices_S2x100000x8x8_S2x100000x1x8_0_0_3_0) shapeCasts_S2x100000x1x8_S2x100000x8) (ix3 a b l) = x (ix3 a b ⟨8 * 3 + l.val, by omega⟩) * x (ix3 a b ⟨8 * 3 + l.val, by omega⟩) := by
  simp [pointwise]

theorem sliceR_4 (x : FVec Ideal S2x100000x64 .f32) (a : Fin 2) (b : Fin 100000) (l : Fin 8) :
    (shapeCast S2x100000x8 (extractStridedSlice S2x100000x1x8 ![0, 0, 4, 0] (shapeCast S2x100000x8x8 (mulf x x) shapeCasts_S2x100000x64_S2x100000x8x8) slices_S2x100000x8x8_S2x100000x1x8_0_0_4_0) shapeCasts_S2x100000x1x8_S2x100000x8) (ix3 a b l) = x (ix3 a b ⟨8 * 4 + l.val, by omega⟩) * x (ix3 a b ⟨8 * 4 + l.val, by omega⟩) := by
  simp [pointwise]

theorem sliceR_5 (x : FVec Ideal S2x100000x64 .f32) (a : Fin 2) (b : Fin 100000) (l : Fin 8) :
    (shapeCast S2x100000x8 (extractStridedSlice S2x100000x1x8 ![0, 0, 5, 0] (shapeCast S2x100000x8x8 (mulf x x) shapeCasts_S2x100000x64_S2x100000x8x8) slices_S2x100000x8x8_S2x100000x1x8_0_0_5_0) shapeCasts_S2x100000x1x8_S2x100000x8) (ix3 a b l) = x (ix3 a b ⟨8 * 5 + l.val, by omega⟩) * x (ix3 a b ⟨8 * 5 + l.val, by omega⟩) := by
  simp [pointwise]

theorem sliceR_6 (x : FVec Ideal S2x100000x64 .f32) (a : Fin 2) (b : Fin 100000) (l : Fin 8) :
    (shapeCast S2x100000x8 (extractStridedSlice S2x100000x1x8 ![0, 0, 6, 0] (shapeCast S2x100000x8x8 (mulf x x) shapeCasts_S2x100000x64_S2x100000x8x8) slices_S2x100000x8x8_S2x100000x1x8_0_0_6_0) shapeCasts_S2x100000x1x8_S2x100000x8) (ix3 a b l) = x (ix3 a b ⟨8 * 6 + l.val, by omega⟩) * x (ix3 a b ⟨8 * 6 + l.val, by omega⟩) := by
  simp [pointwise]

theorem sliceR_7 (x : FVec Ideal S2x100000x64 .f32) (a : Fin 2) (b : Fin 100000) (l : Fin 8) :
    (shapeCast S2x100000x8 (extractStridedSlice S2x100000x1x8 ![0, 0, 7, 0] (shapeCast S2x100000x8x8 (mulf x x) shapeCasts_S2x100000x64_S2x100000x8x8) slices_S2x100000x8x8_S2x100000x1x8_0_0_7_0) shapeCasts_S2x100000x1x8_S2x100000x8) (ix3 a b l) = x (ix3 a b ⟨8 * 7 + l.val, by omega⟩) * x (ix3 a b ⟨8 * 7 + l.val, by omega⟩) := by
  simp [pointwise]

theorem sqR_apply (x : FVec Ideal S2x100000x64 .f32) (a : Fin 2) (b : Fin 100000) (l : Fin 8) :
    sqR x (ix3 a b l)
      = ∑ s : Fin 8, x (ix3 a b ⟨8 * s.val + l.val, by omega⟩) * x (ix3 a b ⟨8 * s.val + l.val, by omega⟩) := by
  rw [Fin.sum_univ_eight]
  unfold sqR
  simp only [addf_apply, sliceR_0, sliceR_1, sliceR_2, sliceR_3, sliceR_4, sliceR_5, sliceR_6, sliceR_7]
  rfl

theorem foldR_apply (y : FVec Ideal S2x100000x8 .f32) (a : Fin 2) (b : Fin 100000) :
    oneR (twoR (fourR y)) (ix2 a b) = ∑ l : Fin 8, y (ix3 a b l) := by
  rw [Fin.sum_univ_eight]
  have e : oneR (twoR (fourR y)) (ix2 a b)
      = ((y (ix3 a b 0) + y (ix3 a b 4)) + (y (ix3 a b 2) + y (ix3 a b 6)))
        + ((y (ix3 a b 1) + y (ix3 a b 5)) + (y (ix3 a b 3) + y (ix3 a b 7))) := by
    unfold oneR twoR fourR
    simp [pointwise]
  rw [e]
  exact fold_order ..

theorem sumR_apply (x : FVec Ideal S2x100000x64 .f32) (a : Fin 2) (b : Fin 100000) :
    sumR x (ix2 a b) = ∑ k : Fin 64, x (ix3 a b k) * x (ix3 a b k) := by
  unfold sumR
  rw [foldR_apply, ← sum_strided]
  exact Finset.sum_congr rfl fun l _ => sqR_apply x a b l

set_option maxHeartbeats 2000000

theorem V_queries (m : (ℓ : Loc nD τ sig) → Buf (Elt F) ℓ) (c : Dev nD) : V m c main_v1 = truncf .bf16 (transpose S2x64x1024 [0, 2, 1] (m (c, Proc.devRef .tc main_arg0)) transposes_S2x1024x64_S2x64x1024_0_2_1) bitsLt_bf16_f32 := by
  show StableHlo.after (List.flatten [hostOps0, hostOps0_1, hostOps0_2, hostOps0_3]) (fun b => m (c, b)) (Proc.devRef .tc main_v1) = _
  simp only [hostOps0, hostOps0_1, hostOps0_2, hostOps0_3, List.flatten_cons, List.flatten_nil, List.append_nil,
    List.cons_append, List.nil_append]
  after_results_simp

theorem V_qsq (m : (ℓ : Loc nD τ sig) → Buf (Elt F) ℓ) (c : Dev nD) : V m c main_v38 = broadcastInDim S2x1x1024 ![0, 2] bcast_S2x1024_S2x1x1024_0_2 (sumQ (m (c, Proc.devRef .tc main_arg0))) := by
  show StableHlo.after (List.flatten [hostOps0, hostOps0_1, hostOps0_2, hostOps0_3]) (fun b => m (c, b)) (Proc.devRef .tc main_v38) = _
  simp only [hostOps0, hostOps0_1, hostOps0_2, hostOps0_3, List.flatten_cons, List.flatten_nil, List.append_nil,
    List.cons_append, List.nil_append]
  after_results_simp
  rfl

theorem V_rsq (m : (ℓ : Loc nD τ sig) → Buf (Elt F) ℓ) (c : Dev nD) : V m c main_v76 = shapeCast S50x4096x1 (pad S2x102400 ![0, 0] ![0, 2400] ![0, 0] (sumR (m (c, Proc.devRef .tc main_arg1))) (constant S_ .f32 0x7F800000#32) pads_S2x100000_S2x102400_000_024000 h_S_) shapeCasts_S2x102400_S50x4096x1 := by
  show StableHlo.after (List.flatten [hostOps0, hostOps0_1, hostOps0_2, hostOps0_3]) (fun b => m (c, b)) (Proc.devRef .tc main_v76) = _
  simp only [hostOps0, hostOps0_1, hostOps0_2, hostOps0_3, List.flatten_cons, List.flatten_nil, List.append_nil,
    List.cons_append, List.nil_append]
  after_results_simp
  rfl

theorem V_rows (m : (ℓ : Loc nD τ sig) → Buf (Elt F) ℓ) (c : Dev nD) : V m c main_v78 = pad S2x102400x64 ![0, 0, 0] ![0, 2400, 0] ![0, 0, 0] (truncf .bf16 (m (c, Proc.devRef .tc main_arg1)) bitsLt_bf16_f32) (sitofp .bf16 (constantI S_ 32 0#32)) pads_S2x100000x64_S2x102400x64_000_024000_000 h_S_ := by
  show StableHlo.after (List.flatten [hostOps0, hostOps0_1, hostOps0_2, hostOps0_3]) (fun b => m (c, b)) (Proc.devRef .tc main_v78) = _
  simp only [hostOps0, hostOps0_1, hostOps0_2, hostOps0_3, List.flatten_cons, List.flatten_nil, List.append_nil,
    List.cons_append, List.nil_append]
  after_results_simp
  rfl

end Cert.KernelIdeal.Knn
end
-- ==== Proof.Blocks.lean ====
/- The blocks of the launch read in the arrays the host prepares, and a block's distances in the arguments. -/
module
public import proofs.«01_k».proof.Proof.Host
public import proofs.«01_k».proof.Proof.Spec
public import Idealize.ShloMosaic.Lib.Pipeline.ValueKit
@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt F) ℓ) (c : Dev nD)

theorem ix_rows : ∀ t : Fin grid0.N, win0_0.index t = ![t.val / 25, t.val % 25, 0] := by decide +kernel
theorem ix_queries : ∀ t : Fin grid0.N, win0_1.index t = ![t.val / 25, 0, 0] := by decide +kernel
theorem ix_qsq : ∀ t : Fin grid0.N, win0_2.index t = ![t.val / 25, 0, 0] := by decide +kernel
theorem ix_rsq : ∀ t : Fin grid0.N, win0_3.index t = ![t.val, 0, 0] := by decide +kernel

theorem half_lt (t : Fin cfg0.N) : t.val / 25 < 2 := by
  have ht : t.val < 50 := Nat.lt_of_lt_of_eq t.isLt N_0
  omega

theorem X0_read (t : Fin cfg0.N) (n : Fin 4096) (k : Fin 64) :
    X0 m c t (ix3 0 n k) = V m c main_v78 (ix3 ⟨t.val / 25, half_lt t⟩ ⟨4096 * (t.val % 25) + n.val, by omega⟩ k) := by
  blk_ext [iblk, ix_rows]
theorem X1_read (t : Fin cfg0.N) (k : Fin 64) (q : Fin 1024) :
    X1 m c t (ix3 0 k q) = V m c main_v1 (ix3 ⟨t.val / 25, half_lt t⟩ k q) := by
  blk_ext [iblk, ix_queries]
theorem X2_read (t : Fin cfg0.N) (q : Fin 1024) :
    X2 m c t (ix3 0 0 q) = V m c main_v38 (ix3 ⟨t.val / 25, half_lt t⟩ 0 q) := by
  blk_ext [iblk, ix_qsq]
theorem X3_read (t : Fin cfg0.N) (n : Fin 4096) :
    X3 m c t (ix3 0 n 0) = V m c main_v76 (ix3 ⟨t.val, Nat.lt_of_lt_of_eq t.isLt N_0⟩ n 0) := by
  blk_ext [iblk, ix_rsq]

/-! ## The arrays at an index -/

section
variable (m : (ℓ : Loc nD τ sig) → Buf (Elt Ideal) ℓ) (c : Dev nD)

/-- The query `q` of batch `b`. -/
def query (b : Fin 2) (q : Fin 1024) (k : Fin 64) : EReal := m (c, Proc.devRef .tc main_arg0) (ix3 b q k)
/-- The rows of batch `b`. -/
def rowsOf (b : Fin 2) (n : Fin 100000) (k : Fin 64) : EReal := m (c, Proc.devRef .tc main_arg1) (ix3 b n k)

theorem queries_read (b : Fin 2) (k : Fin 64) (q : Fin 1024) :
    V m c main_v1 (ix3 b k q) = query m c b q k := by
  rw [V_queries]
  simp only [pointwise]
  rfl

theorem qsq_read (b : Fin 2) (q : Fin 1024) :
    V m c main_v38 (ix3 b 0 q) = ∑ k : Fin 64, query m c b q k * query m c b q k := by
  rw [V_qsq]
  simp only [pointwise]
  exact sumQ_apply _ b q

/-- A padded array of two axes read at an index. -/
theorem pad_rsq (x : FVec Ideal S2x100000 .f32) (b : Fin 2) (n : Fin 102400) :
    pad S2x102400 ![0, 0] ![0, 2400] ![0, 0] x (constant S_ .f32 0x7F800000#32) pads_S2x100000_S2x102400_000_024000 h_S_ (ix2 b n)
      = if h : n.val < 100000 then x (ix2 b ⟨n.val, h⟩) else (⊤ : EReal) := by
  by_cases h : n.val < 100000
  · rw [dif_pos h]
    simp only [pointwise]
    rw [dif_pos]
    · simp
    · intro a
      match a with
      | 0 => exact ⟨Nat.zero_le _, Nat.mod_one _, by simpa using b.isLt⟩
      | 1 => exact ⟨Nat.zero_le _, Nat.mod_one _, by simpa using h⟩
  · rw [dif_neg h]
    simp only [pointwise]
    rw [dif_neg]
    · exact Cert.KernelIdeal.Knn.inf_eq
    · intro hh
      exact h (by simpa using (hh 1).2.2)

theorem pad_rows (x : FVec Ideal S2x100000x64 .bf16) (b : Fin 2) (n : Fin 102400) (k : Fin 64) :
    pad S2x102400x64 ![0, 0, 0] ![0, 2400, 0] ![0, 0, 0] x (sitofp .bf16 (constantI S_ 32 0#32)) pads_S2x100000x64_S2x102400x64_000_024000_000 h_S_ (ix3 b n k)
      = if h : n.val < 100000 then x (ix3 b ⟨n.val, h⟩ k) else (0 : EReal) := by
  by_cases h : n.val < 100000
  · rw [dif_pos h]
    simp only [pointwise]
    rw [dif_pos]
    · simp
    · intro a
      match a with
      | 0 => exact ⟨Nat.zero_le _, Nat.mod_one _, by simpa using b.isLt⟩
      | 1 => exact ⟨Nat.zero_le _, Nat.mod_one _, by simpa using h⟩
      | 2 => exact ⟨Nat.zero_le _, Nat.mod_one _, by simpa using k.isLt⟩
  · rw [dif_neg h]
    simp only [pointwise]
    rw [dif_neg]
    · show (((0#32 : BitVec 32).toInt : ℝ) : EReal) = 0
      simp
    · intro hh
      exact h (by simpa using (hh 1).2.2)

theorem rows_at (b : Fin 2) (n : Fin 102400) (k : Fin 64) :
    V m c main_v78 (ix3 b n k) = if h : n.val < 100000 then rowsOf m c b ⟨n.val, h⟩ k else (0 : EReal) := by
  rw [V_rows]
  refine (pad_rows _ b n k).trans ?_
  rfl

theorem rsq_at (t : Fin 50) (n : Fin 4096) :
    V m c main_v76 (ix3 t n 0) = if h : 4096 * (t.val % 25) + n.val < 100000 then
      ∑ k : Fin 64, rowsOf m c ⟨t.val / 25, by omega⟩ ⟨_, h⟩ k * rowsOf m c ⟨t.val / 25, by omega⟩ ⟨_, h⟩ k else (⊤ : EReal) := by
  rw [V_rsq]
  have e := shapeCast_apply (pad S2x102400 ![0, 0] ![0, 2400] ![0, 0] (sumR (m (c, Proc.devRef .tc main_arg1))) (constant (F := Ideal) S_ .f32 0x7F800000#32) pads_S2x100000_S2x102400_000_024000 h_S_)
    shapeCasts_S2x102400_S50x4096x1 (ix3 t n 0) (ix2 ⟨t.val / 25, by omega⟩ ⟨4096 * (t.val % 25) + n.val, by omega⟩)
    (by rewrite [Shape.rowMajor_val_two, Shape.rowMajor_val_three]; show (t.val / 25) * 102400 + (4096 * (t.val % 25) + n.val) = (t.val * 4096 + n.val) * 1 + 0; omega)
  refine e.trans ((pad_rsq _ _ _).trans ?_)
  split
  · exact sumR_apply _ _ _
  · rfl

/-! ## A block's distances -/

theorem block_dist (x0 : Vec Ideal S1x4096x64 .bf16) (x1 : Vec Ideal S1x64x1024 .bf16) (x2 : Vec Ideal S1x1x1024 .f32)
    (x3 : Vec Ideal S1x4096x1 .f32) (q : Fin 1024) (n : Fin 4096) :
    k0_pay68 (F := Ideal) x0 x1 x2 x3 (ix2 n q)
      = x3 (ix3 0 n 0) + x2 (ix3 0 0 q) - Ideal.ofBits .f32 0x40000000#32 * ∑ k : Fin 64, x0 (ix3 0 n k) * x1 (ix3 0 k q) := by
  simp only [k0_pay68, pointwise]
  rw [zero_add]
  rfl

theorem dist_far (t : Fin cfg0.N) (q : Fin 1024) (n : ℕ) (hn : n < 4096) :
    dist (X0 m c t) (X1 m c t) (X2 m c t) (X3 m c t) q n
      = Cert.Knn.far (query m c ⟨t.val / 25, half_lt t⟩ q) (rowsOf m c ⟨t.val / 25, half_lt t⟩) (4096 * (t.val % 25) + n) := by
  rw [dist_lt _ _ _ _ _ _ hn, block_dist]
  refine Cert.Knn.far_of ?_ ?_ (Finset.sum_congr rfl fun k _ => ?_)
  · rw [X3_read m c t ⟨n, hn⟩, rsq_at]
  · rw [X2_read, qsq_read]
  · rw [X0_read, X1_read, rows_at, queries_read]
end
end Cert.KernelIdeal.Knn
end
-- ==== Proof.Scratch.lean ====
/- What the scratch holds at the end of a batch: every bin's row, and how far it is. -/
module
public import proofs.«01_k».proof.Proof.Blocks
@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt Ideal) ℓ) (c : Dev nD)

open Cert.Knn in
theorem rowOf_best (t : Fin cfg0.N) (y : ℕ) (hy : y / 16 = t.val % 25) (q : Fin 1024) :
    ∃ n, IsBest (far (query m c ⟨t.val / 25, half_lt t⟩ q) (rowsOf m c ⟨t.val / 25, half_lt t⟩)) y n ∧
      rowOf (val0 (F := Ideal) (X0 m c t) (X1 m c t) (X2 m c t) (X3 m c t)) (val1 (F := Ideal) (X0 m c t) (X1 m c t) (X2 m c t) (X3 m c t)) y q
        = far (query m c ⟨t.val / 25, half_lt t⟩ q) (rowsOf m c ⟨t.val / 25, half_lt t⟩) n ∧
      rowOf (idx0 (F := Ideal) (X0 m c t) (X1 m c t) (X2 m c t) (X3 m c t) (grid0.coords t))
        (idx1 (F := Ideal) (X0 m c t) (X1 m c t) (X2 m c t) (X3 m c t) (grid0.coords t)) y q = BitVec.ofNat 32 n := by
  have hd := dist_far m c t q
  by_cases h : y % 16 < 8
  · obtain ⟨n, hn, nm, ni, nv, nl⟩ := half0_spec (X0 m c t) (X1 m c t) (X2 m c t) (X3 m c t) q (grid0.coords t) ⟨y % 8, Nat.mod_lt _ (by decide)⟩
    simp only at nm nl
    refine ⟨4096 * (t.val % 25) + n, ⟨by omega, by unfold bin; omega, fun k hk hb => ?_⟩, ?_, ?_⟩
    · unfold bin at hb
      have e : k = 4096 * (t.val % 25) + (k - 4096 * (t.val % 25)) := by omega
      have h3 := nl (k - 4096 * (t.val % 25)) (by omega) (by omega)
      rw [hd n (by omega), hd _ (by omega), ← e] at h3
      exact ⟨h3.1, fun he => by have := h3.2 he; omega⟩
    · rw [rowOf, if_pos h, nv, hd n (by omega)]
    · rw [rowOf, if_pos h, ni, coord1, mul_comm]
  · obtain ⟨n, hn, nm, ni, nv, nl⟩ := half1_spec (X0 m c t) (X1 m c t) (X2 m c t) (X3 m c t) q (grid0.coords t) ⟨y % 8, Nat.mod_lt _ (by decide)⟩
    simp only at nm nl
    refine ⟨4096 * (t.val % 25) + (2048 + n), ⟨by omega, by unfold bin; omega, fun k hk hb => ?_⟩, ?_, ?_⟩
    · unfold bin at hb
      have e : k = 4096 * (t.val % 25) + (2048 + (k - 4096 * (t.val % 25) - 2048)) := by omega
      have h3 := nl (k - 4096 * (t.val % 25) - 2048) (by omega) (by omega)
      rw [hd _ (by omega), hd _ (by omega), ← e] at h3
      exact ⟨h3.1, fun he => by have := h3.2 he; omega⟩
    · rw [rowOf, if_neg h, nv, hd _ (by omega)]
    · rw [rowOf, if_neg h, ni, coord1, mul_comm, Nat.add_assoc]

/-- The distances of query `q` of batch `b`. -/
def fars (b : Fin 2) (q : Fin 1024) : ℕ → EReal := Cert.Knn.far (query m c b q) (rowsOf m c b)

theorem scratch_best (b : Fin 2) (p : Fin 400) (q : Fin 1024) :
    ∃ n, Cert.Knn.IsBest (fars m c b q) p.val n ∧ scV m c b.val (ix2 p q) = fars m c b q n ∧
      scI m c b.val (ix2 p q) = BitVec.ofNat 32 n := by
  have ht : (pt b.val (p.val / 16)).val = 25 * b.val + p.val / 16 := by
    show (25 * b.val + p.val / 16) % 50 = _
    omega
  obtain ⟨n, h1, h2, h3⟩ := rowOf_best m c (pt b.val (p.val / 16)) p.val (by omega) q
  have eb : (⟨(pt b.val (p.val / 16)).val / 25, half_lt _⟩ : Fin 2) = b := Fin.ext (by show (pt b.val (p.val / 16)).val / 25 = b.val; omega)
  rw [eb] at h1 h2
  exact ⟨n, h1, h2, h3⟩

theorem scV_read (b : Fin 2) (p : Fin 400) (q : Fin 1024) :
    scV m c b.val (ix2 p q) = Cert.Knn.nearness (fars m c b q) p := by
  obtain ⟨n, h1, h2, h3⟩ := scratch_best m c b p q
  rw [h2, Cert.Knn.nearness, h1.row]

theorem scI_read (b : Fin 2) (p : Fin 400) (q : Fin 1024) :
    scI m c b.val (ix2 p q) = BitVec.ofNat 32 (Cert.Knn.bestRow (fars m c b q) p.val) := by
  obtain ⟨n, h1, h2, h3⟩ := scratch_best m c b p q
  rw [h3, h1.row]

section
variable (hq : ∀ b q k, Cert.Knn.IsReal (query m c b q k)) (hr : ∀ b n k, Cert.Knn.IsReal (rowsOf m c b n k))
include hq hr

theorem col_real (b : Fin 2) (q : Fin 1024) (p : Fin 400) (hp : p.val < 16) : col q (scV m c b.val) p < ⊤ := by
  show scV m c b.val (ix2 p q) < _
  obtain ⟨n, h1, h2, h3⟩ := scratch_best m c b p q
  rw [h2]
  exact Cert.Knn.best_lt_top (hq b q) (hr b) hp h1

theorem word_ge (b : Fin 2) (q : Fin 1024) (p : Fin 400) : -1 ≤ (scI m c b.val (ix2 p q)).toInt := by
  obtain ⟨n, h1, h2, h3⟩ := scratch_best m c b p q
  rw [h3]
  have := h1.1
  rw [BitVec.toInt_ofNat']
  simp only [Int.bmod]
  omega

theorem col_eq (b : Fin 2) (q : Fin 1024) : col q (scV m c b.val) = Cert.Knn.nearness (fars m c b q) :=
  funext fun p => scV_read m c b p q

theorem val_out (b : Fin 2) (q : Fin 1024) (r : Fin 16) :
    outVal (F := Ideal) (scV m c b.val) (ix3 0 r q) = fars m c b q (Cert.Knn.nearRow (fars m c b q) (place r)) := by
  rw [outVal_read q _ (col_real m c hq hr b q), scV_read, col_eq m c hq hr]
  rfl

theorem idx_out (b : Fin 2) (q : Fin 1024) (r : Fin 16) :
    outIdx (F := Ideal) (scV m c b.val) (scI m c b.val) (ix3 0 r q)
      = BitVec.ofNat 32 (Cert.Knn.nearRow (fars m c b q) (place r)) := by
  rw [outIdx_read _ q _ (col_real m c hq hr b q) (word_ge m c hq hr b q), scI_read, col_eq m c hq hr]
  rfl
end
end Cert.KernelIdeal.Knn
end
-- ==== Proof.Out.lean ====
/- The results the kernel leaves, read at an index. -/
module
public import proofs.«01_k».proof.Proof.Scratch
public import proofs.«01_k».proof.Pre_finite
public import Idealize.ShloMosaic.Lib.ReduceAll
@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

variable (m : (ℓ : Loc nD τ sig) → Buf (Elt Ideal) ℓ) (c : Dev nD) (ρ : Dev nD → PrngReg)

/-- The rows found, as the launch leaves them. -/
def foundIdx : S2x16x1024.Idx → BitVec 32 := fun i =>
  BitVec.ofNat 32 (Cert.Knn.nearRow (fars m c (i (0 : Fin 3)) (i (2 : Fin 3))) (place (i (1 : Fin 3))))
/-- Their distances. -/
def foundVal : S2x16x1024.Idx → EReal := fun i =>
  fars m c (i (0 : Fin 3)) (i (2 : Fin 3)) (Cert.Knn.nearRow (fars m c (i (0 : Fin 3)) (i (2 : Fin 3))) (place (i (1 : Fin 3))))

theorem ix_idx : ∀ t : Fin grid0.N, win0_4.index t = ![t.val / 25, 0, 0] := by decide +kernel
theorem ix_val : ∀ t : Fin grid0.N, win0_5.index t = ![t.val / 25, 0, 0] := by decide +kernel

theorem block_ix (y : S1x16x1024.Idx) : y = ix3 0 (y (1 : Fin 3)) (y (2 : Fin 3)) := by
  funext a
  match a with
  | ⟨0, _⟩ => exact Fin.ext (by have h : (y (0 : Fin 3)).val < 1 := (y (0 : Fin 3)).isLt; show (y (0 : Fin 3)).val = 0; omega)
  | ⟨1, _⟩ => rfl
  | ⟨2, _⟩ => rfl

section
variable (hq : ∀ b q k, Cert.Knn.IsReal (query m c b q k)) (hr : ∀ b n k, Cert.Knn.IsReal (rowsOf m c b n k))
include hq hr

theorem idx_arr : (dats m 0 c).arrAt 4 cfg0.N = foundIdx m c := by
  refine (dats m 0 c).arrAt_eq_of_covers 4 _ (by decide +kernel) fun t hf y => ?_
  have e : ((cfg0.win 4).blk t).view.emb y = ix3 ⟨t.val / 25, half_lt t⟩ (y (1 : Fin 3)) (y (2 : Fin 3)) := by
    blk_ext [ix_idx]
  rw [e]
  refine (congrFun (after4 m c t) y).trans ?_
  rw [block_ix y]
  exact idx_out m c hq hr ⟨t.val / 25, half_lt t⟩ _ _

theorem val_arr : (dats m 0 c).arrAt 5 cfg0.N = foundVal m c := by
  refine (dats m 0 c).arrAt_eq_of_covers 5 _ (by decide +kernel) fun t hf y => ?_
  have e : ((cfg0.win 5).blk t).view.emb y = ix3 ⟨t.val / 25, half_lt t⟩ (y (1 : Fin 3)) (y (2 : Fin 3)) := by
    blk_ext [ix_val]
  rw [e]
  refine (congrFun (after5 m c t) y).trans ?_
  rw [block_ix y]
  exact val_out m c hq hr ⟨t.val / 25, half_lt t⟩ _ _

theorem tail_idx : Pipeline.afterTail₀ cfgs (dats m) 0 (V0 m) [hostOps1] c main_v80
    = transpose S2x1024x16 [0, 2, 1] (foundIdx m c) transposes_S2x16x1024_S2x1024x16_0_2_1 := by
  unfold Pipeline.afterTail₀
  simp only [hostOps1, List.flatten_cons, List.flatten_nil, List.append_nil, List.cons_append, List.nil_append]
  after_results_simp
  have h : Pipeline.withArrays spec0 c (V0 m c) (fun w => (dats m 0 c).arrAt w cfg0.N) (Proc.devRef .tc main_v79_0) = foundIdx m c :=
    (Pipeline.withArrays_arr spec0 (by decide +kernel) c (V0 m c) (fun w => (dats m 0 c).arrAt w cfg0.N) 4).trans (idx_arr m c hq hr)
  exact congrArg (fun a => transpose S2x1024x16 [0, 2, 1] a transposes_S2x16x1024_S2x1024x16_0_2_1) h

theorem tail_val : Pipeline.afterTail₀ cfgs (dats m) 0 (V0 m) [hostOps1] c main_v81
    = transpose S2x1024x16 [0, 2, 1] (foundVal m c) transposes_S2x16x1024_S2x1024x16_0_2_1 := by
  unfold Pipeline.afterTail₀
  simp only [hostOps1, List.flatten_cons, List.flatten_nil, List.append_nil, List.cons_append, List.nil_append]
  after_results_simp
  have h : Pipeline.withArrays spec0 c (V0 m c) (fun w => (dats m 0 c).arrAt w cfg0.N) (Proc.devRef .tc main_v79_1) = foundVal m c :=
    (Pipeline.withArrays_arr spec0 (by decide +kernel) c (V0 m c) (fun w => (dats m 0 c).arrAt w cfg0.N) 5).trans (val_arr m c hq hr)
  exact congrArg (fun a => transpose S2x1024x16 [0, 2, 1] a transposes_S2x16x1024_S2x1024x16_0_2_1) h
end

theorem idx_result (b : Fin 2) (q : Fin 1024) (r : Fin 16) :
    transpose S2x1024x16 [0, 2, 1] (foundIdx m c) transposes_S2x16x1024_S2x1024x16_0_2_1 (ix3 b q r)
      = BitVec.ofNat 32 (Cert.Knn.nearRow (fars m c b q) (place r)) := by
  simp only [pointwise]
  rfl
theorem val_result (b : Fin 2) (q : Fin 1024) (r : Fin 16) :
    transpose S2x1024x16 [0, 2, 1] (foundVal m c) transposes_S2x16x1024_S2x1024x16_0_2_1 (ix3 b q r)
      = fars m c b q (Cert.Knn.nearRow (fars m c b q) (place r)) := by
  simp only [pointwise]
  rfl

/-- Where the inputs are finite, the run ends with the rows found and their distances, the arguments as launched. -/
theorem run_found (hq : ∀ c b q k, Cert.Knn.IsReal (query m c b q k)) (hr : ∀ c b n k, Cert.Knn.IsReal (rowsOf m c b n k)) :
    θ_run defs (onTc (τ := τ) (main (F := Ideal))) ⟨m, fun _ => 0, ρ⟩ (fun r => ∀ c : Dev nD,
      r.2.mem ((c.tc : Thread nD τ).loc main_v80) = transpose S2x1024x16 [0, 2, 1] (foundIdx m c) transposes_S2x16x1024_S2x1024x16_0_2_1
      ∧ r.2.mem ((c.tc : Thread nD τ).loc main_v81) = transpose S2x1024x16 [0, 2, 1] (foundVal m c) transposes_S2x16x1024_S2x1024x16_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨
      ((h.1 c).2 main_v80 (Pipeline.mem_restRefs_of main_v80 (by decide) (by decide))).trans (tail_idx m c (hq c) (hr c)),
      ((h.1 c).2 main_v81 (Pipeline.mem_restRefs_of main_v81 (by decide) (by decide))).trans (tail_val m c (hq c) (hr c)),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_quiet m ρ)

/-! ## The precondition -/

theorem pre_facts : Cert.Pre_finite.Facts where
  bcast_S_S2x1024x64 := by decide
  reducesTo_S2x1024x64_S_d0_1_2 := by decide
  h_S_ := by decide
  bcast_S_S2x100000x64 := by decide
  reducesTo_S2x100000x64_S_d0_1_2 := by decide

theorem real_of_word (x : EReal) (h : Ideal.cmp .olt (max x (-x)) (FloatOps.ofBits (F := Ideal) .f32 0x7F800000#32) = 1#1) :
    Cert.Knn.IsReal x := by
  rw [inf_eq] at h
  refine Cert.Knn.isReal_of_abs ?_
  by_contra hn
  simp [Ideal.cmp, hn] at h

theorem finite_spec [Cert.Pre_finite.Facts] (x0 : FVec Ideal Cert.Pre_finite.S2x1024x64 .f32) (x1 : FVec Ideal Cert.Pre_finite.S2x100000x64 .f32)
    (h : Cert.Pre_finite.fn (F := Ideal) x0 x1 = fun _ => 1#1) :
    (∀ i, Cert.Knn.IsReal (x0 i)) ∧ ∀ i, Cert.Knn.IsReal (x1 i) := by
  have h0 := congrFun h (Shape.Idx.first Cert.Pre_finite.Facts.h_S_)
  unfold Cert.Pre_finite.fn at h0
  obtain ⟨ha, hb⟩ := IntOp.andi_eq_one.mp h0
  constructor
  · intro i
    exact real_of_word _ (Host.reduce_andi_all _ _ _ _ _ ha i)
  · intro i
    exact real_of_word _ (Host.reduce_andi_all _ _ _ _ _ hb i)
end Cert.KernelIdeal.Knn
end
-- ==== Proof.lean ====
/- The five claims: the programs run to the end with their arguments unchanged and no counter raised, the idealized kernel is
   the kernel's own, and over the reals it returns the rows and distances the reference returns. -/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.ReferenceIdeal.Run
public import proofs.«01_k».proof.Proof.Ref
public import proofs.«01_k».proof.Proof.Out
public import proofs.«01_k».proof.Proof.KernelLaunch
public import Idealize.ShloMosaic.Adequacy
public import Idealize.ShloMosaic.Init

@[expose] public section

noncomputable section

namespace Cert.Proof

open Idealize.ShloMosaic Idealize.SL.Sem

instance preFacts : Cert.Pre_finite.Facts := Cert.KernelIdeal.Knn.pre_facts

theorem reference_quiescent : Cert.quiescent_ReferenceIdeal := by
  intro m g _
  exact (θ_run Cert.ReferenceIdeal.defs _ _).mono
    (fun r h => ⟨fun c => (h c).2.2, sem_eq_zero_of_no_sems (by decide) r.2⟩)
    (Cert.ReferenceIdeal.Value.run (F := Ideal) m g)

theorem reference_quiescent_finite : Cert.quiescent_ReferenceIdeal_pre_finite := by
  intro m g _
  exact (θ_run Cert.ReferenceIdeal.defs _ _).mono
    (fun r h => ⟨fun c => (h c).2.2, sem_eq_zero_of_no_sems (by decide) r.2⟩)
    (Cert.ReferenceIdeal.Value.run (F := Ideal) m g)

/-- The index of a result, by its coordinates. -/
theorem result_ix (i : Cert.KernelIdeal.S2x1024x16.Idx) : ∃ (b : Fin 2) (q : Fin 1024) (r : Fin 16), i = ix3 b q r :=
  ⟨i (0 : Fin 3), i (1 : Fin 3), i (2 : Fin 3), by
    funext a
    match a with
    | ⟨0, _⟩ => rfl
    | ⟨1, _⟩ => rfl
    | ⟨2, _⟩ => rfl⟩

theorem same_results : Cert.algebraic_KernelIdeal_ReferenceIdeal_pre_finite := by
  intro m g m' g' hpre hargs
  have hfin := fun c => Cert.KernelIdeal.Knn.finite_spec _ _ (hpre c)
  refine ⟨_, _, Cert.KernelIdeal.Knn.run_found m g (fun c b q k => (hfin c).1 _) (fun c b n k => (hfin c).2 _), ?_⟩
  refine (θ_run Cert.ReferenceIdeal.defs _ _).mono (fun r h c => ⟨(h c).1.trans ?_, (h c).2.1.trans ?_, (h c).2.2⟩)
    (Cert.ReferenceIdeal.Value.run (F := Ideal) m' g')
  · rw [Cert.ReferenceIdeal.Read.val_main_v26_eq, (hargs c).1, (hargs c).2]
    funext i
    obtain ⟨b, q, r, rfl⟩ := result_ix i
    exact (Cert.ReferenceIdeal.Knn.words_read _ _ b q r).trans (Cert.KernelIdeal.Knn.idx_result m c b q r).symm
  · rw [Cert.ReferenceIdeal.Read.val_main_v27_eq, (hargs c).1, (hargs c).2]
    funext i
    obtain ⟨b, q, r, rfl⟩ := result_ix i
    exact (Cert.ReferenceIdeal.Knn.values_read _ _ b q r).trans (Cert.KernelIdeal.Knn.val_result m c b q r).symm

theorem claim : Cert.Claim :=
  ⟨Cert.Kernel.Gen.facts, Cert.KernelIdeal.Gen.facts, Cert.ReferenceIdeal.Gen.facts, preFacts,
    fun m ρ _ => Cert.Kernel.Knn.frame m ρ, fun m ρ _ => Cert.KernelIdeal.Knn.frame m ρ,
    fun m ρ _ => Cert.KernelIdeal.Knn.frame m ρ, reference_quiescent, reference_quiescent_finite, trivial, same_results⟩

end Cert.Proof

end
